-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Kernel.lean ====
abbrev S32768x2048 : Shape := ⟨2, ![32768, 2048]⟩
abbrev S32768x16384 : Shape := ⟨2, ![32768, 16384]⟩
abbrev S1x16384x2048 : Shape := ⟨3, ![1, 16384, 2048]⟩
abbrev S1x2048 : Shape := ⟨2, ![1, 2048]⟩
abbrev S16384x2048 : Shape := ⟨2, ![16384, 2048]⟩
abbrev S2048 : Shape := ⟨1, ![2048]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x16384, .bf16⟩
  | .hbm, ⟨2, _⟩ => ⟨S1x16384x2048, .f32⟩
  | .hbm, ⟨3, _⟩ => ⟨S1x16384x2048, .f32⟩
  | .hbm, ⟨4, _⟩ => ⟨S1x2048, .f32⟩
  | .hbm, ⟨5, _⟩ => ⟨S1x2048, .f32⟩
  | .hbm, ⟨6, _⟩ => ⟨S32768x2048, .bf16⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x2048, .f32⟩
  | .local _ .vmem, ⟨8, _⟩ => ⟨S1024x2048, .f32⟩
  | .local _ .vmem, ⟨9, _⟩ => ⟨S1x2048, .f32⟩
  | .local _ .vmem, ⟨10, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ReferenceIdeal.lean ====
abbrev S32768x2048 : Shape := ⟨2, ![32768, 2048]⟩
abbrev S32768x16384 : Shape := ⟨2, ![32768, 16384]⟩
abbrev S1x16384x2048 : Shape := ⟨3, ![1, 16384, 2048]⟩
abbrev S1x2048 : Shape := ⟨2, ![1, 2048]⟩
abbrev S16384x2048 : Shape := ⟨2, ![16384, 2048]⟩
abbrev S2048x16384 : Shape := ⟨2, ![2048, 16384]⟩
abbrev S_ : Shape := ⟨0, ![]⟩
abbrev S2048 : Shape := ⟨1, ![2048]⟩
abbrev S32768 : Shape := ⟨1, ![32768]⟩
abbrev S32768x1 : Shape := ⟨2, ![32768, 1]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x16384, .bf16⟩
  | .hbm, ⟨2, _⟩ => ⟨S1x16384x2048, .f32⟩
  | .hbm, ⟨3, _⟩ => ⟨S1x16384x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S2048x16384, .f32⟩
  | .hbm, ⟨8, _⟩ => ⟨S32768x16384, .f32⟩
  | .hbm, ⟨9, _⟩ => ⟨S_, .f32⟩
  | .hbm, ⟨10, _⟩ => ⟨S32768x16384, .f32⟩
  | .hbm, ⟨11, _⟩ => ⟨S32768x16384, .f32⟩
  | .hbm, ⟨12, _⟩ => ⟨S32768x16384, .f32⟩
  | .hbm, ⟨13, _⟩ => ⟨S_, .f32⟩
  | .hbm, ⟨14, _⟩ => ⟨S32768x16384, .f32⟩
  | .hbm, ⟨15, _⟩ => ⟨S32768x16384, .f32⟩
  | .hbm, ⟨16, _⟩ => ⟨S32768x16384, .f32⟩
  | .hbm, ⟨17, _⟩ => ⟨S32768x16384, .f32⟩
  | .hbm, ⟨18, _⟩ => ⟨S32768x16384, .f32⟩
  | .hbm, ⟨19, _⟩ => ⟨S32768x16384, .f32⟩
  | .hbm, ⟨20, _⟩ => ⟨S16384x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S1x2048x7184 : Shape := ⟨3, ![1, 2048, 7184]⟩
abbrev S1x2048x7168 : Shape := ⟨3, ![1, 2048, 7168]⟩
abbrev S2048x7168 : Shape := ⟨2, ![2048, 7168]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S32768x2048 : Shape := ⟨2, ![32768, 2048]⟩
abbrev S1x2048 : Shape := ⟨2, ![1, 2048]⟩
abbrev S32768x7168 : Shape := ⟨2, ![32768, 7168]⟩
abbrev S32768x128 : Shape := ⟨2, ![32768, 128]⟩
abbrev S1024x2048 : Shape := ⟨2, ![1024, 2048]⟩
abbrev S2048x1792 : Shape := ⟨2, ![2048, 1792]⟩
abbrev S1024x1792 : Shape := ⟨2, ![1024, 1792]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 18
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S1x2048x7184, .f32⟩
  | .hbm, ⟨4, _⟩ => ⟨S1x2048x7168, .f32⟩
  | .hbm, ⟨5, _⟩ => ⟨S2048x7168, .f32⟩
  | .hbm, ⟨6, _⟩ => ⟨S2048x7168, .bf16⟩
  | .hbm, ⟨7, _⟩ => ⟨S1x2048x16, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S32768x2048, .f32⟩
  | .hbm, ⟨14, _⟩ => ⟨S1x2048, .f32⟩
  | .hbm, ⟨15, _⟩ => ⟨S1x2048, .f32⟩
  | .hbm, ⟨16, _⟩ => ⟨S32768x7168, .bf16⟩
  | .hbm, ⟨17, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1792, .bf16⟩
  | .local _ .vmem, ⟨5, _⟩ => ⟨S2048x1792, .bf16⟩
  | .local _ .vmem, ⟨6, _⟩ => ⟨S2048x128, .bf16⟩
  | .local _ .vmem, ⟨7, _⟩ => ⟨S1024x1792, .bf16⟩
  | .local _ .vmem, ⟨8, _⟩ => ⟨S1024x1792, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v9 : BitVec 32 := Scalar.addi c0_i32_6 c4_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c256_i32 : BitVec 32 := 256#32
  let v10 : BitVec 32 := Scalar.muli arg10 c256_i32
  v10
def k0_off1 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c256_i32 : BitVec 32 := 256#32
  let v10 : BitVec 32 := Scalar.muli arg10 c256_i32
  let v11 : BitVec 32 := v10
  let v12 : Index := Scalar.indexCast v11
  let c0_8 : Index := 0#32
  ![v12.toNat, 0]
def k0_off2 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c256_i32 : BitVec 32 := 256#32
  let v10 : BitVec 32 := Scalar.muli arg10 c256_i32
  let v11 : BitVec 32 := v10
  let v47 : Index := Scalar.indexCast v11
  let c0_22 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x16384x2048 : Shape := ⟨3, ![2, 16384, 2048]⟩
abbrev S2048 : Shape := ⟨1, ![2048]⟩
abbrev S1x2048x7184 : Shape := ⟨3, ![1, 2048, 7184]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x7184 : Shape := ⟨2, ![2048, 7184]⟩
abbrev S2x16384x7184 : Shape := ⟨3, ![2, 16384, 7184]⟩
abbrev S32768x7184 : Shape := ⟨2, ![32768, 7184]⟩
abbrev S32768x7168 : Shape := ⟨2, ![32768, 7168]⟩
abbrev S32768x16 : Shape := ⟨2, ![32768, 16]⟩
abbrev S32768x128 : Shape := ⟨2, ![32768, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S1x2048x7184, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S2048x7184, .f32⟩
  | .hbm, ⟨32, _⟩ => ⟨S2x16384x7184, .f32⟩
  | .hbm, ⟨33, _⟩ => ⟨S32768x7184, .f32⟩
  | .hbm, ⟨34, _⟩ => ⟨S32768x7168, .f32⟩
  | .hbm, ⟨35, _⟩ => ⟨S32768x16, .f32⟩
  | .hbm, ⟨36, _⟩ => ⟨S32768x7168, .bf16⟩
  | .hbm, ⟨37, _⟩ => ⟨S_, .i32⟩
  | .hbm, ⟨38, _⟩ => ⟨S_, .f32⟩
  | .hbm, ⟨39, _⟩ => ⟨S32768x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S2x16384x2048 : Shape := ⟨3, ![2, 16384, 2048]⟩
abbrev S32768x7168 : Shape := ⟨2, ![32768, 7168]⟩
abbrev S32768x1024 : Shape := ⟨2, ![32768, 1024]⟩
abbrev S2048 : Shape := ⟨1, ![2048]⟩
abbrev S1x3x1024 : Shape := ⟨3, ![1, 3, 1024]⟩
abbrev S1x1024 : Shape := ⟨2, ![1, 1024]⟩
abbrev S1x2048x2048 : Shape := ⟨3, ![1, 2048, 2048]⟩
abbrev S1x2048 : Shape := ⟨2, ![1, 2048]⟩
abbrev S3x1024 : Shape := ⟨2, ![3, 1024]⟩
abbrev S_ : Shape := ⟨0, ![]⟩
abbrev S8x1024 : Shape := ⟨2, ![8, 1024]⟩
abbrev S32768x2048 : Shape := ⟨2, ![32768, 2048]⟩
abbrev S1024 : Shape := ⟨1, ![1024]⟩
abbrev S2048x2048 : Shape := ⟨2, ![2048, 2048]⟩
abbrev S512x1024 : Shape := ⟨2, ![512, 1024]⟩
abbrev S16x1024 : Shape := ⟨2, ![16, 1024]⟩
abbrev S512x2048 : Shape := ⟨2, ![512, 2048]⟩
abbrev S2x1024 : Shape := ⟨2, ![2, 1024]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 25
  | .smem => 0
  | _ => 0

abbrev bufTy : (tb : Table) → Fin (tcTables nBuf tb) → BufTy
  | .hbm, ⟨0, _⟩ => ⟨S2x16384x2048, .f32⟩
  | .hbm, ⟨1, _⟩ => ⟨S32768x7168, .bf16⟩
  | .hbm, ⟨2, _⟩ => ⟨S32768x1024, .bf16⟩
  | .hbm, ⟨3, _⟩ => ⟨S2048, .f32⟩
  | .hbm, ⟨4, _⟩ => ⟨S2048, .f32⟩
  | .hbm, ⟨5, _⟩ => ⟨S1x3x1024, .f32⟩
  | .hbm, ⟨6, _⟩ => ⟨S1x1024, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S3x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S32768x2048, .f32⟩
  | .hbm, ⟨15, _⟩ => ⟨S1x2048, .f32⟩
  | .hbm, ⟨16, _⟩ => ⟨S1x2048, .f32⟩
  | .hbm, ⟨17, _⟩ => ⟨S1024, .f32⟩
  | .hbm, ⟨18, _⟩ => ⟨S1x1024, .f32⟩
  | .hbm, ⟨19, _⟩ => ⟨S2048x2048, .f32⟩
  | .hbm, ⟨20, _⟩ => ⟨S2048x2048, .bf16⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S32768x2048, .f32⟩
  | .hbm, ⟨26, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S8x1024, .f32⟩
  | .local _ .vmem, ⟨17, _⟩ => ⟨S1x1024, .f32⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x16384x2048 : Shape := ⟨3, ![2, 16384, 2048]⟩
abbrev S32768x7168 : Shape := ⟨2, ![32768, 7168]⟩
abbrev S32768x1024 : Shape := ⟨2, ![32768, 1024]⟩
abbrev S2048 : Shape := ⟨1, ![2048]⟩
abbrev S1x3x1024 : Shape := ⟨3, ![1, 3, 1024]⟩
abbrev S1x1024 : Shape := ⟨2, ![1, 1024]⟩
abbrev S1x2048x2048 : Shape := ⟨3, ![1, 2048, 2048]⟩
abbrev S1x2048 : Shape := ⟨2, ![1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7168 : Shape := ⟨3, ![2, 16384, 7168]⟩
abbrev S2x16384x1024 : Shape := ⟨3, ![2, 16384, 1024]⟩
abbrev S3x1024 : Shape := ⟨2, ![3, 1024]⟩
abbrev S1024 : Shape := ⟨1, ![1024]⟩
abbrev S2x16386x1024 : Shape := ⟨3, ![2, 16386, 1024]⟩
abbrev S1x1x1024 : Shape := ⟨3, ![1, 1, 1024]⟩
abbrev S2048x2048 : Shape := ⟨2, ![2048, 2048]⟩
abbrev S32768x2048 : Shape := ⟨2, ![32768, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S32768x7168, .bf16⟩
  | .hbm, ⟨2, _⟩ => ⟨S32768x1024, .bf16⟩
  | .hbm, ⟨3, _⟩ => ⟨S2048, .f32⟩
  | .hbm, ⟨4, _⟩ => ⟨S2048, .f32⟩
  | .hbm, ⟨5, _⟩ => ⟨S1x3x1024, .f32⟩
  | .hbm, ⟨6, _⟩ => ⟨S1x1024, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x2048, .f32⟩
  | .hbm, ⟨30, _⟩ => ⟨S2x16384x2048, .f32⟩
  | .hbm, ⟨31, _⟩ => ⟨S1x1x2048, .f32⟩
  | .hbm, ⟨32, _⟩ => ⟨S2x16384x2048, .f32⟩
  | .hbm, ⟨33, _⟩ => ⟨S2x16384x2048, .f32⟩
  | .hbm, ⟨34, _⟩ => ⟨S1x1x2048, .f32⟩
  | .hbm, ⟨35, _⟩ => ⟨S2x16384x2048, .f32⟩
  | .hbm, ⟨36, _⟩ => ⟨S2x16384x2048, .f32⟩
  | .hbm, ⟨37, _⟩ => ⟨S32768x7168, .f32⟩
  | .hbm, ⟨38, _⟩ => ⟨S2x16384x7168, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S3x1024, .f32⟩
  | .hbm, ⟨44, _⟩ => ⟨S1024, .f32⟩
  | .hbm, ⟨45, _⟩ => ⟨S_, .i32⟩
  | .hbm, ⟨46, _⟩ => ⟨S_, .f32⟩
  | .hbm, ⟨47, _⟩ => ⟨S2x16386x1024, .f32⟩
  | .hbm, ⟨48, _⟩ => ⟨S1x1024, .f32⟩
  | .hbm, ⟨49, _⟩ => ⟨S1024, .f32⟩
  | .hbm, ⟨50, _⟩ => ⟨S2x16384x1024, .f32⟩
  | .hbm, ⟨51, _⟩ => ⟨S1x1x1024, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S1x1024, .f32⟩
  | .hbm, ⟨58, _⟩ => ⟨S1024, .f32⟩
  | .hbm, ⟨59, _⟩ => ⟨S2x16384x1024, .f32⟩
  | .hbm, ⟨60, _⟩ => ⟨S1x1x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S1x1024, .f32⟩
  | .hbm, ⟨65, _⟩ => ⟨S1024, .f32⟩
  | .hbm, ⟨66, _⟩ => ⟨S2x16384x1024, .f32⟩
  | .hbm, ⟨67, _⟩ => ⟨S1x1x1024, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | .hbm, ⟨72, _⟩ => ⟨S32768x1024, .f32⟩
  | .hbm, ⟨73, _⟩ => ⟨S2x16384x1024, .f32⟩
  | .hbm, ⟨74, _⟩ => ⟨S2x16384x2048, .f32⟩
  | .hbm, ⟨75, _⟩ => ⟨S2048x2048, .f32⟩
  | .hbm, ⟨76, _⟩ => ⟨S2x16384x2048, .f32⟩
  | .hbm, ⟨77, _⟩ => ⟨S_, .f32⟩
  | .hbm, ⟨78, _⟩ => ⟨S2x16384x2048, .f32⟩
  | .hbm, ⟨79, _⟩ => ⟨S2x16384x2048, .f32⟩
  | .hbm, ⟨80, _⟩ => ⟨S2x16384x2048, .f32⟩
  | .hbm, ⟨81, _⟩ => ⟨S2048, .f32⟩
  | .hbm, ⟨82, _⟩ => ⟨S2048, .f32⟩
  | .hbm, ⟨83, _⟩ => ⟨S_, .f32⟩
  | .hbm, ⟨84, _⟩ => ⟨S2x16384, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x2048, .f32⟩
  | .hbm, ⟨90, _⟩ => ⟨S2x16384x2048, .f32⟩
  | .hbm, ⟨91, _⟩ => ⟨S2x16384x2048, .f32⟩
  | .hbm, ⟨92, _⟩ => ⟨S_, .f32⟩
  | .hbm, ⟨93, _⟩ => ⟨S2x16384, .f32⟩
  | .hbm, ⟨94, _⟩ => ⟨S2x16384x1, .f32⟩
  | .hbm, ⟨95, _⟩ => ⟨S_, .f32⟩
  | .hbm, ⟨96, _⟩ => ⟨S2x16384x1, .f32⟩
  | .hbm, ⟨97, _⟩ => ⟨S2x16384x1, .f32⟩
  | .hbm, ⟨98, _⟩ => ⟨S_, .f32⟩
  | .hbm, ⟨99, _⟩ => ⟨S2x16384x1, .f32⟩
  | .hbm, ⟨100, _⟩ => ⟨S2x16384x1, .f32⟩
  | .hbm, ⟨101, _⟩ => ⟨S2x16384x1, .f32⟩
  | .hbm, ⟨102, _⟩ => ⟨S2x16384x2048, .f32⟩
  | .hbm, ⟨103, _⟩ => ⟨S2x16384x2048, .f32⟩
  | .hbm, ⟨104, _⟩ => ⟨S1x1x2048, .f32⟩
  | .hbm, ⟨105, _⟩ => ⟨S2x16384x2048, .f32⟩
  | .hbm, ⟨106, _⟩ => ⟨S2x16384x2048, .f32⟩
  | .hbm, ⟨107, _⟩ => ⟨S1x1x2048, .f32⟩
  | .hbm, ⟨108, _⟩ => ⟨S2x16384x2048, .f32⟩
  | .hbm, ⟨109, _⟩ => ⟨S2x16384x2048, .f32⟩
  | .hbm, ⟨110, _⟩ => ⟨S32768x2048, .f32⟩
  | .hbm, ⟨111, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_7 : Ref sig .tc := ⟨.hbm, 92, rfl⟩
abbrev main_v72 : Ref sig .tc := ⟨.hbm, 93, rfl⟩
abbrev main_v73 : Ref sig .tc := ⟨.hbm, 94, rfl⟩
abbrev main_cst_8 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Kernel4.lean ====
abbrev S32768x2048 : Shape := ⟨2, ![32768, 2048]⟩
abbrev S1x2048x2048 : Shape := ⟨3, ![1, 2048, 2048]⟩
abbrev S2048x2048 : Shape := ⟨2, ![2048, 2048]⟩
abbrev S2048x8x2x128 : Shape := ⟨4, ![2048, 8, 2, 128]⟩
abbrev S2x8x128x2048 : Shape := ⟨4, ![2, 8, 128, 2048]⟩
abbrev S2048x32768 : Shape := ⟨2, ![2048, 32768]⟩
abbrev S1024x2048 : Shape := ⟨2, ![1024, 2048]⟩
abbrev S2048x1024 : Shape := ⟨2, ![2048, 1024]⟩

abbrev nBuf : Space → Nat
  | .hbm => 9
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S1x2048x2048, .f32⟩
  | .hbm, ⟨2, _⟩ => ⟨S32768x2048, .bf16⟩
  | .hbm, ⟨3, _⟩ => ⟨S2048x2048, .f32⟩
  | .hbm, ⟨4, _⟩ => ⟨S2048x2048, .bf16⟩
  | .hbm, ⟨5, _⟩ => ⟨S2048x8x2x128, .bf16⟩
  | .hbm, ⟨6, _⟩ => ⟨S2x8x128x2048, .bf16⟩
  | .hbm, ⟨7, _⟩ => ⟨S2048x2048, .bf16⟩
  | .hbm, ⟨8, _⟩ => ⟨S2048x32768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x1024, .bf16⟩
  | .local _ .vmem, ⟨4, _⟩ => ⟨S2048x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x2048 : Shape := ⟨2, ![32768, 2048]⟩
abbrev S1x2048x2048 : Shape := ⟨3, ![1, 2048, 2048]⟩
abbrev S2048x2048 : Shape := ⟨2, ![2048, 2048]⟩
abbrev S32768x8x2x128 : Shape := ⟨4, ![32768, 8, 2, 128]⟩
abbrev S2x8x128x32768 : Shape := ⟨4, ![2, 8, 128, 32768]⟩
abbrev S2048x32768 : Shape := ⟨2, ![2048, 32768]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x2048, .f32⟩
  | .hbm, ⟨2, _⟩ => ⟨S2048x2048, .f32⟩
  | .hbm, ⟨3, _⟩ => ⟨S32768x2048, .f32⟩
  | .hbm, ⟨4, _⟩ => ⟨S32768x8x2x128, .f32⟩
  | .hbm, ⟨5, _⟩ => ⟨S2x8x128x32768, .f32⟩
  | .hbm, ⟨6, _⟩ => ⟨S2048x32768, .f32⟩
  | .hbm, ⟨7, _⟩ => ⟨S2048x32768, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S32768x128 : Shape := ⟨2, ![32768, 128]⟩
abbrev S1x16 : Shape := ⟨2, ![1, 16]⟩
abbrev S16 : Shape := ⟨1, ![16]⟩
abbrev S16x1 : Shape := ⟨2, ![16, 1]⟩
abbrev S8x32768 : Shape := ⟨2, ![8, 32768]⟩
abbrev S2048x128 : Shape := ⟨2, ![2048, 128]⟩
abbrev S8x2048 : Shape := ⟨2, ![8, 2048]⟩
abbrev S128x2048 : Shape := ⟨2, ![128, 2048]⟩
abbrev S16x2048 : Shape := ⟨2, ![16, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32768x128, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S8x32768, .f32⟩
  | .hbm, ⟨5, _⟩ => ⟨S32768x128, .f32⟩
  | .hbm, ⟨6, _⟩ => ⟨S32768x128, .f32⟩
  | .local _ .vmem, ⟨0, _⟩ => ⟨S2048x128, .f32⟩
  | .local _ .vmem, ⟨1, _⟩ => ⟨S2048x128, .f32⟩
  | .local _ .vmem, ⟨2, _⟩ => ⟨S16x1, .f32⟩
  | .local _ .vmem, ⟨3, _⟩ => ⟨S8x2048, .f32⟩
  | .local _ .vmem, ⟨4, _⟩ => ⟨S8x2048, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x128 : Shape := ⟨2, ![32768, 128]⟩
abbrev S1x16 : Shape := ⟨2, ![1, 16]⟩
abbrev S32768x16 : Shape := ⟨2, ![32768, 16]⟩
abbrev S16 : Shape := ⟨1, ![16]⟩
abbrev S32768x8 : Shape := ⟨2, ![32768, 8]⟩
abbrev S_ : Shape := ⟨0, ![]⟩
abbrev S512x64x8 : Shape := ⟨3, ![512, 64, 8]⟩
abbrev S512x8x64 : Shape := ⟨3, ![512, 8, 64]⟩
abbrev S8x512x64 : Shape := ⟨3, ![8, 512, 64]⟩
abbrev S8x32768 : Shape := ⟨2, ![8, 32768]⟩
abbrev S32x32768 : Shape := ⟨2, ![32, 32768]⟩
abbrev S128x32768 : Shape := ⟨2, ![128, 32768]⟩

abbrev nBuf : Space → Nat
  | .hbm => 50
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x16, .f32⟩
  | .hbm, ⟨2, _⟩ => ⟨S32768x16, .f32⟩
  | .hbm, ⟨3, _⟩ => ⟨S16, .f32⟩
  | .hbm, ⟨4, _⟩ => ⟨S1x16, .f32⟩
  | .hbm, ⟨5, _⟩ => ⟨S32768x16, .f32⟩
  | .hbm, ⟨6, _⟩ => ⟨S32768x16, .f32⟩
  | .hbm, ⟨7, _⟩ => ⟨S32768x8, .f32⟩
  | .hbm, ⟨8, _⟩ => ⟨S32768x8, .f32⟩
  | .hbm, ⟨9, _⟩ => ⟨S32768x8, .f32⟩
  | .hbm, ⟨10, _⟩ => ⟨S_, .f32⟩
  | .hbm, ⟨11, _⟩ => ⟨S32768x8, .f32⟩
  | .hbm, ⟨12, _⟩ => ⟨S32768x8, .f32⟩
  | .hbm, ⟨13, _⟩ => ⟨S32768x8, .f32⟩
  | .hbm, ⟨14, _⟩ => ⟨S32768x8, .f32⟩
  | .hbm, ⟨15, _⟩ => ⟨S32768x8, .i1⟩
  | .hbm, ⟨16, _⟩ => ⟨S32768x8, .f32⟩
  | .hbm, ⟨17, _⟩ => ⟨S32768x8, .f32⟩
  | .hbm, ⟨18, _⟩ => ⟨S32768x8, .f32⟩
  | .hbm, ⟨19, _⟩ => ⟨S32768x8, .f32⟩
  | .hbm, ⟨20, _⟩ => ⟨S32768x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S512x64x8, .f32⟩
  | .hbm, ⟨26, _⟩ => ⟨S512x8x64, .f32⟩
  | .hbm, ⟨27, _⟩ => ⟨S512x64x8, .f32⟩
  | .hbm, ⟨28, _⟩ => ⟨S512x8x64, .f32⟩
  | .hbm, ⟨29, _⟩ => ⟨S_, .f32⟩
  | .hbm, ⟨30, _⟩ => ⟨S_, .f32⟩
  | .hbm, ⟨31, _⟩ => ⟨S512x8x64, .f32⟩
  | .hbm, ⟨32, _⟩ => ⟨S512x8x64, .f32⟩
  | .hbm, ⟨33, _⟩ => ⟨S_, .f32⟩
  | .hbm, ⟨34, _⟩ => ⟨S_, .f32⟩
  | .hbm, ⟨35, _⟩ => ⟨S512x8x64, .f32⟩
  | .hbm, ⟨36, _⟩ => ⟨S8x512x64, .f32⟩
  | .hbm, ⟨37, _⟩ => ⟨S8x32768, .f32⟩
  | .hbm, ⟨38, _⟩ => ⟨S8x512x64, .f32⟩
  | .hbm, ⟨39, _⟩ => ⟨S8x32768, .f32⟩
  | .hbm, ⟨40, _⟩ => ⟨S8x512x64, .f32⟩
  | .hbm, ⟨41, _⟩ => ⟨S8x32768, .f32⟩
  | .hbm, ⟨42, _⟩ => ⟨S_, .f32⟩
  | .hbm, ⟨43, _⟩ => ⟨S8x32768, .f32⟩
  | .hbm, ⟨44, _⟩ => ⟨S32x32768, .f32⟩
  | .hbm, ⟨45, _⟩ => ⟨S128x32768, .f32⟩
  | .hbm, ⟨46, _⟩ => ⟨S32768x128, .f32⟩
  | .hbm, ⟨47, _⟩ => ⟨S32x32768, .f32⟩
  | .hbm, ⟨48, _⟩ => ⟨S128x32768, .f32⟩
  | .hbm, ⟨49, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_call0_cst : Ref sig .tc := ⟨.hbm, 29, rfl⟩
abbrev main_call1_call0_v0 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel6.lean ====
abbrev S32768x7168 : Shape := ⟨2, ![32768, 7168]⟩
abbrev S8x32768 : Shape := ⟨2, ![8, 32768]⟩
abbrev S32768x128 : Shape := ⟨2, ![32768, 128]⟩
abbrev S1x1024 : Shape := ⟨2, ![1, 1024]⟩
abbrev S8x512x64 : Shape := ⟨3, ![8, 512, 64]⟩
abbrev S512x8x64 : Shape := ⟨3, ![512, 8, 64]⟩
abbrev S1024 : Shape := ⟨1, ![1024]⟩
abbrev S128 : Shape := ⟨1, ![128]⟩
abbrev S_ : Shape := ⟨0, ![]⟩
abbrev S3072 : Shape := ⟨1, ![3072]⟩
abbrev S128x1 : Shape := ⟨2, ![128, 1]⟩
abbrev S1x3072 : Shape := ⟨2, ![1, 3072]⟩
abbrev S128x3072 : Shape := ⟨2, ![128, 3072]⟩
abbrev S32768x1024 : Shape := ⟨2, ![32768, 1024]⟩
abbrev S1024x1024 : Shape := ⟨2, ![1024, 1024]⟩
abbrev S16x8x64 : Shape := ⟨3, ![16, 8, 64]⟩
abbrev S1024x128 : Shape := ⟨2, ![1024, 128]⟩
abbrev S8x128x256 : Shape := ⟨3, ![8, 128, 256]⟩
abbrev S1x128 : Shape := ⟨2, ![1, 128]⟩
abbrev S8x64x128 : Shape := ⟨3, ![8, 64, 128]⟩
abbrev S8x128x128 : Shape := ⟨3, ![8, 128, 128]⟩
abbrev S64x64 : Shape := ⟨2, ![64, 64]⟩
abbrev S64x128 : Shape := ⟨2, ![64, 128]⟩
abbrev S1x8x64 : Shape := ⟨3, ![1, 8, 64]⟩
abbrev S8x64 : Shape := ⟨2, ![8, 64]⟩
abbrev S64x3072 : Shape := ⟨2, ![64, 3072]⟩
abbrev S1x64x128 : Shape := ⟨3, ![1, 64, 128]⟩
abbrev S8x64x64 : Shape := ⟨3, ![8, 64, 64]⟩
abbrev S64x1 : Shape := ⟨2, ![64, 1]⟩
abbrev S1x64x1 : Shape := ⟨3, ![1, 64, 1]⟩
abbrev S8x64x1 : Shape := ⟨3, ![8, 64, 1]⟩
abbrev S1x1 : Shape := ⟨2, ![1, 1]⟩
abbrev S1x1x1 : Shape := ⟨3, ![1, 1, 1]⟩
abbrev S8x1x1 : Shape := ⟨3, ![8, 1, 1]⟩
abbrev S1x64x64 : Shape := ⟨3, ![1, 64, 64]⟩
abbrev S8x1x64 : Shape := ⟨3, ![8, 1, 64]⟩
abbrev S8x64x256 : Shape := ⟨3, ![8, 64, 256]⟩

abbrev nBuf : Space → Nat
  | .hbm => 155
  | .vmem => 20
  | .smem => 0
  | _ => 0

abbrev hbmTy0_0 (i : Nat) : BufTy := match i % 128 with
  | 0 => ⟨S32768x7168, .bf16⟩
  | 1 => ⟨S8x32768, .f32⟩
  | 2 => ⟨S32768x128, .f32⟩
  | 3 => ⟨S32768x128, .f32⟩
  | 4 => ⟨S1x1024, .f32⟩
  | 5 => ⟨S8x512x64, .f32⟩
  | 6 => ⟨S512x8x64, .f32⟩
  | 7 => ⟨S1024, .f32⟩
  | 8 => ⟨S1x1024, .f32⟩
  | 9 => ⟨S128, .i32⟩
  | 10 => ⟨S_, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S128, .i32⟩
  | 19 => ⟨S128, .i32⟩
  | 20 => ⟨S_, .i32⟩
  | 21 => ⟨S128, .i32⟩
  | 22 => ⟨S128, .i1⟩
  | 23 => ⟨S128, .i1⟩
  | 24 => ⟨S_, .i32⟩
  | 25 => ⟨S128, .i32⟩
  | 26 => ⟨S128, .i32⟩
  | 27 => ⟨S128, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S128, .i32⟩
  | 35 => ⟨S128, .i32⟩
  | 36 => ⟨S_, .i32⟩
  | 37 => ⟨S128, .i32⟩
  | 38 => ⟨S128, .i1⟩
  | 39 => ⟨S_, .i32⟩
  | 40 => ⟨S128, .i32⟩
  | 41 => ⟨S128, .i1⟩
  | 42 => ⟨S_, .i32⟩
  | 43 => ⟨S_, .i1⟩
  | 44 => ⟨S128, .i1⟩
  | 45 => ⟨S128, .i1⟩
  | 46 => ⟨S128, .i1⟩
  | 47 => ⟨S128, .i32⟩
  | 48 => ⟨S128, .i32⟩
  | 49 => ⟨S128, .i32⟩
  | 50 => ⟨S_, .i32⟩
  | 51 => ⟨S_, .i32⟩
  | 52 => ⟨S128, .i32⟩
  | 53 => ⟨S128, .i32⟩
  | 54 => ⟨S128, .i32⟩
  | 55 => ⟨S_, .i32⟩
  | 56 => ⟨S128, .i32⟩
  | 57 => ⟨S128, .i1⟩
  | 58 => ⟨S128, .i32⟩
  | 59 => ⟨S128, .i32⟩
  | 60 => ⟨S_, .i32⟩
  | 61 => ⟨S128, .i32⟩
  | 62 => ⟨S128, .i1⟩
  | 63 => ⟨S128, .i1⟩
  | 64 => ⟨S_, .i32⟩
  | 65 => ⟨S128, .i32⟩
  | 66 => ⟨S128, .i32⟩
  | 67 => ⟨S128, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S128, .i32⟩
  | 75 => ⟨S128, .i32⟩
  | 76 => ⟨S_, .i32⟩
  | 77 => ⟨S128, .i32⟩
  | 78 => ⟨S128, .i1⟩
  | 79 => ⟨S_, .i32⟩
  | 80 => ⟨S128, .i32⟩
  | 81 => ⟨S128, .i1⟩
  | 82 => ⟨S_, .i32⟩
  | 83 => ⟨S_, .i1⟩
  | 84 => ⟨S128, .i1⟩
  | 85 => ⟨S128, .i1⟩
  | 86 => ⟨S128, .i1⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S128, .i32⟩
  | 100 => ⟨S128, .i32⟩
  | 101 => ⟨S_, .i32⟩
  | 102 => ⟨S128, .i32⟩
  | 103 => ⟨S128, .i1⟩
  | 104 => ⟨S_, .i32⟩
  | 105 => ⟨S128, .i32⟩
  | 106 => ⟨S128, .i1⟩
  | 107 => ⟨S_, .i32⟩
  | 108 => ⟨S_, .i1⟩
  | 109 => ⟨S128, .i1⟩
  | 110 => ⟨S128, .i1⟩
  | 111 => ⟨S128, .i1⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S128, .i32⟩
  | 119 => ⟨S_, .i32⟩
  | 120 => ⟨S128, .i32⟩
  | 121 => ⟨S128, .i1⟩
  | 122 => ⟨S_, .i32⟩
  | 123 => ⟨S128, .i32⟩
  | 124 => ⟨S128, .i1⟩
  | 125 => ⟨S128, .i1⟩
  | 126 => ⟨S3072, .i32⟩
  | 127 => ⟨S_, .i32⟩
  | _ => ⟨S32768x7168, .bf16⟩

abbrev hbmTy0_1 (i : Nat) : BufTy := match i % 128 with
  | 0 => ⟨S_, .i32⟩
  | 1 => ⟨S3072, .i32⟩
  | 2 => ⟨S3072, .i32⟩
  | 3 => ⟨S3072, .i32⟩
  | 4 => ⟨S_, .i32⟩
  | 5 => ⟨S3072, .i32⟩
  | 6 => ⟨S3072, .i1⟩
  | 7 => ⟨S3072, .i32⟩
  | 8 => ⟨S3072, .i32⟩
  | 9 => ⟨S_, .i32⟩
  | 10 => ⟨S3072, .i32⟩
  | 11 => ⟨S3072, .i1⟩
  | 12 => ⟨S3072, .i1⟩
  | 13 => ⟨S_, .i32⟩
  | 14 => ⟨S3072, .i32⟩
  | 15 => ⟨S3072, .i32⟩
  | 16 => ⟨S3072, .i32⟩
  | 17 => ⟨S128x1, .i32⟩
  | 18 => ⟨S1x3072, .i32⟩
  | 19 => ⟨S128x3072, .i32⟩
  | 20 => ⟨S128x3072, .i32⟩
  | 21 => ⟨S128x3072, .i1⟩
  | 22 => ⟨S128x1, .i1⟩
  | 23 => ⟨S128x3072, .i1⟩
  | 24 => ⟨S128x3072, .i1⟩
  | 25 => ⟨S128x3072, .bf16⟩
  | 26 => ⟨S32768x1024, .bf16⟩
  | _ => ⟨S32768x7168, .bf16⟩

abbrev hbmTy (i : Nat) : BufTy := match i / 128 with
  | 0 => hbmTy0_0 i
  | 1 => hbmTy0_1 i
  | _ => ⟨S32768x7168, .bf16⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x8x64, .f32⟩
  | .local _ .vmem, ⟨9, _⟩ => ⟨S16x8x64, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x3072, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S8x128x256, .f32⟩
  | .local _ .vmem, ⟨19, _⟩ => ⟨S1x128, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_c_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v7 : Ref sig .tc := ⟨.hbm, 67, rfl⟩
abbrev main_c_2 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v8 : Ref sig .tc := ⟨.hbm, 89, rfl⟩
abbrev main_c_3 : Ref sig .tc := ⟨.hbm, 90, rfl⟩
abbrev main_v9 : Ref sig .tc := ⟨.hbm, 91, rfl⟩
abbrev main_v10 : Ref sig .tc := ⟨.hbm, 92, rfl⟩
abbrev main_c_4 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_v5 : Ref sig .tc := ⟨.hbm, 102, rfl⟩
abbrev main_call4_v6 : Ref sig .tc := ⟨.hbm, 103, rfl⟩
abbrev main_call4_c_2 : Ref sig .tc := ⟨.hbm, 104, rfl⟩
abbrev main_call4_v7 : Ref sig .tc := ⟨.hbm, 105, rfl⟩
abbrev main_call4_v8 : Ref sig .tc := ⟨.hbm, 106, rfl⟩
abbrev main_call4_c_3 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_v11 : Ref sig .tc := ⟨.hbm, 114, rfl⟩
abbrev main_c_5 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_c_6 : Ref sig .tc := ⟨.hbm, 119, rfl⟩
abbrev main_v15 : Ref sig .tc := ⟨.hbm, 120, rfl⟩
abbrev main_v16 : Ref sig .tc := ⟨.hbm, 121, rfl⟩
abbrev main_c_7 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_c_8 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_c : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_0 : Ref sig .tc := ⟨.hbm, 141, rfl⟩
abbrev main_call5_v12 : Ref sig .tc := ⟨.hbm, 142, rfl⟩
abbrev main_call5_v13 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_v27 : Ref sig .tc := ⟨.hbm, 150, rfl⟩
abbrev main_v28 : Ref sig .tc := ⟨.hbm, 151, rfl⟩
abbrev main_v29 : Ref sig .tc := ⟨.hbm, 152, rfl⟩
abbrev main_v30 : Ref sig .tc := ⟨.hbm, 153, rfl⟩
abbrev main_v31 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_17 : BitVec 32 := 0#32
  let c16_i32_18 : BitVec 32 := 16#32
  let v70 : BitVec 32 := Scalar.addi c0_i32_17 c16_i32_18
  let c1_i32_19 : BitVec 32 := 1#32
  ⟨c0_i32_17, v70, c1_i32_19⟩
def k0_mult1 (k0_t1 : Fin k0_t1_loop.trips) : BitVec 32 :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  v71
def k0_off1 (k0_t1 : Fin k0_t1_loop.trips) : Fin 3 → Nat :=
  let c0_i32_17 : BitVec 32 := 0#32
  let c1_i32_19 : BitVec 32 := 1#32
  let arg14 : BitVec 32 := Scf.iv c0_i32_17 c1_i32_19 k0_t1
  let v73 : Index := Scalar.indexCast arg14
  let c0 : Index := 0#32
  let c0_21 : Index := 0#32
  ![v73.toNat, 0, 0]
def k0_off2 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v76 : Index := Scalar.indexCast v72
  let c0_22 : Index := 0#32
  ![v76.toNat, 0]
def k0_off3 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v208 : Index := Scalar.indexCast v72
  let c0_35 : Index := 0#32
  ![v208.toNat, 0]
def k0_off4 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v210 : Index := Scalar.indexCast v72
  let c128 : Index := 128#32
  ![v210.toNat, 128]
def k0_off5 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v212 : Index := Scalar.indexCast v72
  let c256 : Index := 256#32
  ![v212.toNat, 256]
def k0_off6 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v214 : Index := Scalar.indexCast v72
  let c384 : Index := 384#32
  ![v214.toNat, 384]
def k0_off7 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v216 : Index := Scalar.indexCast v72
  let c512 : Index := 512#32
  ![v216.toNat, 512]
def k0_off8 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v218 : Index := Scalar.indexCast v72
  let c640 : Index := 640#32
  ![v218.toNat, 640]
def k0_off9 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v220 : Index := Scalar.indexCast v72
  let c768 : Index := 768#32
  ![v220.toNat, 768]
def k0_off10 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c64_i32 : BitVec 32 := 64#32
  let v71 : BitVec 32 := Scalar.muli arg14 c64_i32
  let v72 : BitVec 32 := v71
  let v222 : Index := Scalar.indexCast v72
  let c896 : Index := 896#32
  ![v222.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.ExpertsBlocks.lean ====
/-
  What the experts kernel's staged blocks hold, as entries of the launched arguments: the arrays the host hands the
  kernel are the arguments re-shaped and narrowed (over the extended reals a narrowing is the identity), and the block of
  grid point n is a rectangle of 1024 tokens or of 1024 experts.
-/
module

public import proofs.«01_k».proof.Proof.Gen.KernelIdeal.Value
public import Idealize.ShloMosaic.Lib.Pointwise
public import Idealize.ShloMosaic.Lib.ValueIdx
public import Idealize.ShloMosaic.Lib.Tactic

@[expose] public section

noncomputable section

namespace Cert.Experts

open Cert.KernelIdeal Cert.KernelIdeal.Gen Idealize.ShloMosaic Idealize.ShloMosaic.TcCoe Idealize.SL.Sem

variable (m : (ℓ : Loc nD τ sig) → Buf (Elt Ideal) ℓ) (c : Dev nD)

/-- The narrowed token array is the launched one. -/
theorem V_v0 (i : Fin 32768) (k : Fin 2048) :
    V m c main_v0 (ix2 i k) = m ((c : Thread nD τ).loc main_arg0) (ix2 i k) := by
  show StableHlo.after hostOps0 (fun b => m (c, b)) (Proc.devRef .tc main_v0) (ix2 i k) = _
  after_results
  pointwise

/-- The first expert table, without its leading axis of extent one. -/
theorem V_v2 (e : Fin 16384) (k : Fin 2048) :
    V m c main_v2 (ix2 e k) = m ((c : Thread nD τ).loc main_arg2) (ix3 0 e k) := by
  show StableHlo.after hostOps0 (fun b => m (c, b)) (Proc.devRef .tc main_v2) (ix2 e k) = _
  after_results
  pointwise

/-- The second expert table, without its leading axis of extent one. -/
theorem V_v4 (e : Fin 16384) (k : Fin 2048) :
    V m c main_v4 (ix2 e k) = m ((c : Thread nD τ).loc main_arg3) (ix3 0 e k) := by
  show StableHlo.after hostOps0 (fun b => m (c, b)) (Proc.devRef .tc main_v4) (ix2 e k) = _
  after_results
  pointwise

/-- The layer norm's gain row. -/
theorem V_v6 (k : Fin 2048) :
    V m c main_v6 (ix2 0 k) = m ((c : Thread nD τ).loc main_arg4) (ix2 0 k) := by
  show StableHlo.after hostOps0 (fun b => m (c, b)) (Proc.devRef .tc main_v6) (ix2 0 k) = _
  after_results
  pointwise

/-- The layer norm's bias row. -/
theorem V_v8 (k : Fin 2048) :
    V m c main_v8 (ix2 0 k) = m ((c : Thread nD τ).loc main_arg5) (ix2 0 k) := by
  show StableHlo.after hostOps0 (fun b => m (c, b)) (Proc.devRef .tc main_v8) (ix2 0 k) = _
  after_results
  pointwise

/-- The index maps, decided over the grid: token blocks move with the point's quotient by 16, expert blocks with its
    remainder, the two rows stay. -/
theorem index_facts : ∀ t : Fin cfg0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val % 16 ∧ win0_2.index t (1 : Fin 2) = 0)
    ∧ (win0_3.index t (0 : Fin 2) = t.val / 16 ∧ win0_3.index t (1 : Fin 2) = t.val % 16)
    ∧ (win0_4.index t (0 : Fin 2) = 0 ∧ win0_4.index t (1 : Fin 2) = 0)
    ∧ (win0_5.index t (0 : Fin 2) = t.val / 16 ∧ win0_5.index t (1 : Fin 2) = 0)
    ∧ (win0_6.index t (0 : Fin 2) = 0 ∧ win0_6.index t (1 : Fin 2) = 0) :=
  (by decide +kernel : ∀ t : Fin grid0.N, _)

/-- The block of tokens. -/
theorem blk_tokens (t : Fin cfg0.N) (i : Fin 1024) (k : Fin 2048) (r : Fin 32768) (hr : r.val = 1024 * (t.val / 16) + i.val) :
    (iblk m c 0 t : Vec Ideal S1024x2048 .bf16) (ix2 i k) = m ((c : Thread nD τ).loc main_arg0) (ix2 r k) := by
  obtain ⟨⟨h0, h1⟩, -⟩ := index_facts t
  refine Eq.trans ?_ (V_v0 m c r k)
  unfold iblk
  show V m c main_v0 _ = V m c main_v0 _
  congr 1
  funext a
  apply Fin.ext
  match a with
  | ⟨0, _⟩ => show win0_0.index t (0 : Fin 2) * 1024 + 1 * i.val = r.val; omega
  | ⟨1, _⟩ => show win0_0.index t (1 : Fin 2) * 2048 + 1 * k.val = k.val; omega

/-- The block of the residual's tokens. -/
theorem blk_residual (t : Fin cfg0.N) (i : Fin 1024) (k : Fin 2048) (r : Fin 32768) (hr : r.val = 1024 * (t.val / 16) + i.val) :
    (iblk m c 5 t : Vec Ideal S1024x2048 .f32) (ix2 i k) = m ((c : Thread nD τ).loc main_arg0) (ix2 r k) := by
  obtain ⟨-, -, -, -, -, ⟨h0, h1⟩, -⟩ := index_facts t
  refine Eq.trans ?_ (congrFun (V_main_arg0 m c) (ix2 r k))
  unfold iblk
  show V m c main_arg0 _ = V m c main_arg0 _
  congr 1
  funext a
  apply Fin.ext
  match a with
  | ⟨0, _⟩ => show win0_5.index t (0 : Fin 2) * 1024 + 1 * i.val = r.val; omega
  | ⟨1, _⟩ => show win0_5.index t (1 : Fin 2) * 2048 + 1 * k.val = k.val; omega

/-- The block of the first expert table. -/
theorem blk_up (t : Fin cfg0.N) (i : Fin 1024) (k : Fin 2048) (r : Fin 16384) (hr : r.val = 1024 * (t.val % 16) + i.val) :
    (iblk m c 1 t : Vec Ideal S1024x2048 .bf16) (ix2 i k) = m ((c : Thread nD τ).loc main_arg2) (ix3 0 r k) := by
  obtain ⟨-, ⟨h0, h1⟩, -⟩ := index_facts t
  refine Eq.trans ?_ (V_v2 m c r k)
  unfold iblk
  show V m c main_v2 _ = V m c main_v2 _
  congr 1
  funext a
  apply Fin.ext
  match a with
  | ⟨0, _⟩ => show win0_1.index t (0 : Fin 2) * 1024 + 1 * i.val = r.val; omega
  | ⟨1, _⟩ => show win0_1.index t (1 : Fin 2) * 2048 + 1 * k.val = k.val; omega

/-- The block of the second expert table. -/
theorem blk_down (t : Fin cfg0.N) (i : Fin 1024) (k : Fin 2048) (r : Fin 16384) (hr : r.val = 1024 * (t.val % 16) + i.val) :
    (iblk m c 2 t : Vec Ideal S1024x2048 .bf16) (ix2 i k) = m ((c : Thread nD τ).loc main_arg3) (ix3 0 r k) := by
  obtain ⟨-, -, ⟨h0, h1⟩, -⟩ := index_facts t
  refine Eq.trans ?_ (V_v4 m c r k)
  unfold iblk
  show V m c main_v4 _ = V m c main_v4 _
  congr 1
  funext a
  apply Fin.ext
  match a with
  | ⟨0, _⟩ => show win0_2.index t (0 : Fin 2) * 1024 + 1 * i.val = r.val; omega
  | ⟨1, _⟩ => show win0_2.index t (1 : Fin 2) * 2048 + 1 * k.val = k.val; omega

/-- The block of the routing weights: a rectangle of tokens by experts. -/
theorem blk_weights (t : Fin cfg0.N) (i e : Fin 1024) (r : Fin 32768) (q : Fin 16384)
    (hr : r.val = 1024 * (t.val / 16) + i.val) (hq : q.val = 1024 * (t.val % 16) + e.val) :
    (iblk m c 3 t : Vec Ideal S1024x1024 .bf16) (ix2 i e) = m ((c : Thread nD τ).loc main_arg1) (ix2 r q) := by
  obtain ⟨-, -, -, ⟨h0, h1⟩, -⟩ := index_facts t
  refine Eq.trans ?_ (congrFun (V_main_arg1 m c) (ix2 r q))
  unfold iblk
  show V m c main_arg1 _ = V m c main_arg1 _
  congr 1
  funext a
  apply Fin.ext
  match a with
  | ⟨0, _⟩ => show win0_3.index t (0 : Fin 2) * 1024 + 1 * i.val = r.val; omega
  | ⟨1, _⟩ => show win0_3.index t (1 : Fin 2) * 1024 + 1 * e.val = q.val; omega

/-- The gain row, at every point. -/
theorem blk_gain (t : Fin cfg0.N) (k : Fin 2048) :
    (iblk m c 4 t : Vec Ideal S1x2048 .f32) (ix2 0 k) = m ((c : Thread nD τ).loc main_arg4) (ix2 0 k) := by
  obtain ⟨-, -, -, -, ⟨h0, h1⟩, -⟩ := index_facts t
  refine Eq.trans ?_ (V_v6 m c k)
  unfold iblk
  show V m c main_v6 _ = V m c main_v6 _
  congr 1
  funext a
  apply Fin.ext
  match a with
  | ⟨0, _⟩ => show win0_4.index t (0 : Fin 2) * 1 + 1 * 0 = 0; omega
  | ⟨1, _⟩ => show win0_4.index t (1 : Fin 2) * 2048 + 1 * k.val = k.val; omega

/-- The bias row, at every point. -/
theorem blk_bias (t : Fin cfg0.N) (k : Fin 2048) :
    (iblk m c 6 t : Vec Ideal S1x2048 .f32) (ix2 0 k) = m ((c : Thread nD τ).loc main_arg5) (ix2 0 k) := by
  obtain ⟨-, -, -, -, -, -, ⟨h0, h1⟩⟩ := index_facts t
  refine Eq.trans ?_ (V_v8 m c k)
  unfold iblk
  show V m c main_v8 _ = V m c main_v8 _
  congr 1
  funext a
  apply Fin.ext
  match a with
  | ⟨0, _⟩ => show win0_6.index t (0 : Fin 2) * 1 + 1 * 0 = 0; omega
  | ⟨1, _⟩ => show win0_6.index t (1 : Fin 2) * 2048 + 1 * k.val = k.val; omega

end Cert.Experts

end
-- ==== Proof.LayerNorm.lean ====
/-
  The arithmetic the four value claims share, over the extended reals: a layer norm of one row as an entry by entry
  function, the activation of one expert as the kernel and as the reference spell it, and a sum over all the experts
  cut into blocks.
-/
module

public import Idealize.ShloMosaic.PureOps.Ideal.Laws

@[expose] public section

noncomputable section

namespace Cert.Spec

open Idealize.ShloMosaic

/-- The mean of a row of 2048 entries, with 2048 given as the float word the programs use. -/
def mean (f : Fin 2048 → EReal) : EReal := Ideal.div (∑ x, f x) (Ideal.ofBits FTy.f32 0x45000000#32)

/-- One entry of the layer norm of a row `f`: the entry less the row's mean, times the reciprocal square root of the
    row's variance plus the small constant, times the gain `g`, plus the bias `b`. -/
def layerNorm (f : Fin 2048 → EReal) (g b : EReal) (d : Fin 2048) : EReal :=
  (f d - mean f) * Ideal.rsqrt (Ideal.div (∑ x, (f x - mean f) * (f x - mean f)) (Ideal.ofBits FTy.f32 0x45000000#32)
    + Ideal.ofBits FTy.f32 0x3727C5AC#32) * g + b

/-- The activation of one expert, as the kernel computes it: half of `s`, times one plus the error function of `s` over
    the square root of two. -/
def act (s : EReal) : EReal :=
  Ideal.ofBits FTy.f32 0x3F000000#32 * s * (1 + Ideal.erf (s * Ideal.ofBits FTy.f32 0x3F3504F3#32))

/-- The same activation as the reference computes it: by the complementary error function of the negated argument. -/
theorem act_eq (s : EReal) :
    Ideal.ofBits FTy.f32 0x3F000000#32 * s * Ideal.erfc (-s * Ideal.ofBits FTy.f32 0x3F3504F3#32) = act s := by
  rw [act, EReal.neg_mul, Ideal.erfc_neg]

/-- The part of a sum over the first `n` blocks of 1024 experts. -/
def blockSum (f : ℕ → EReal) (n : ℕ) : EReal := ∑ e ∈ Finset.range (1024 * n), f e

/-- One block more: the sum so far plus the sum over the block's 1024 experts. -/
theorem blockSum_succ (f : ℕ → EReal) (n : ℕ) :
    blockSum f (n + 1) = blockSum f n + ∑ e : Fin 1024, f (1024 * n + e.val) := by
  rw [blockSum, blockSum, Nat.mul_add, Nat.mul_one, Finset.sum_range_add, Finset.sum_range (fun x => f (1024 * n + x))]

end Cert.Spec

end
-- ==== Proof.ExpertsRef.lean ====
/-
  The experts reference, entry by entry: what one entry of its result is, over the extended reals.
-/
module

public import proofs.«01_k».proof.Proof.Gen.ReferenceIdeal.Read
public import proofs.«01_k».proof.Proof.LayerNorm
public import Idealize.ShloMosaic.Lib.Pointwise
public import Idealize.ShloMosaic.Lib.ValueIdx

@[expose] public section

noncomputable section

namespace Cert.Experts

open Cert.ReferenceIdeal Cert.ReferenceIdeal.Read Idealize.ShloMosaic

/-- What expert number `e` adds to entry (`r`, `d`) before the layer norm: the routing weight of token `r` for the
    expert, times the activation of the token's product with the expert's first row, times the expert's second row.
    Beyond the last expert it is zero. -/
def term (h : Fin 32768 → Fin 2048 → EReal) (w : Fin 32768 → Fin 16384 → EReal) (u v : Fin 16384 → Fin 2048 → EReal)
    (r : Fin 32768) (d : Fin 2048) (e : ℕ) : EReal :=
  if he : e < 16384 then w r ⟨e, he⟩ * Spec.act (∑ k, h r k * u ⟨e, he⟩ k) * v ⟨e, he⟩ d else 0

/-- A token's row before the layer norm: the residual times its factor, plus the first `n` blocks of experts. -/
def row (h : Fin 32768 → Fin 2048 → EReal) (w : Fin 32768 → Fin 16384 → EReal) (u v : Fin 16384 → Fin 2048 → EReal)
    (r : Fin 32768) (n : ℕ) (d : Fin 2048) : EReal :=
  Ideal.ofBits FTy.f32 0x3F9837F0#32 * h r d + Spec.blockSum (term h w u v r d) n

/-- The row with all sixteen blocks is the residual plus the sum over all the experts. -/
theorem row_full (h : Fin 32768 → Fin 2048 → EReal) (w : Fin 32768 → Fin 16384 → EReal) (u v : Fin 16384 → Fin 2048 → EReal)
    (r : Fin 32768) (d : Fin 2048) :
    row h w u v r 16 d = Ideal.ofBits FTy.f32 0x3F9837F0#32 * h r d
      + ∑ e : Fin 16384, w r e * Spec.act (∑ k, h r k * u e k) * v e d := by
  have e : ∀ N : ℕ, N = 16384 → ∑ e ∈ Finset.range N, term h w u v r d e
      = ∑ e : Fin 16384, w r e * Spec.act (∑ k, h r k * u e k) * v e d := by
    intro N hN
    rw [hN, Finset.sum_range]
    exact Finset.sum_congr rfl fun e _ => dif_pos e.isLt
  unfold row Spec.blockSum
  rw [e _ (by norm_num)]

/-- THE REFERENCE'S RESULT at token `i`, feature `d`: the layer norm of the token's row with all sixteen blocks. -/
theorem ref_apply (a : (⟨S32768x2048, .f32⟩ : BufTy).Contents (Elt Ideal)) (w : (⟨S32768x16384, .bf16⟩ : BufTy).Contents (Elt Ideal))
    (u v : (⟨S1x16384x2048, .f32⟩ : BufTy).Contents (Elt Ideal)) (g b : (⟨S1x2048, .f32⟩ : BufTy).Contents (Elt Ideal))
    (i : Fin 32768) (d : Fin 2048) :
    val_main_v40 (F := Ideal) a w u v g b (ix2 i d)
      = Spec.layerNorm (row (fun r k => a (ix2 r k)) (fun r e => w (ix2 r e)) (fun e k => u (ix3 0 e k)) (fun e k => v (ix3 0 e k)) i 16)
          (g (ix2 0 d)) (b (ix2 0 d)) d := by
  have hrow : ∀ x : Fin 2048, row (fun r k => a (ix2 r k)) (fun r e => w (ix2 r e)) (fun e k => u (ix3 0 e k)) (fun e k => v (ix3 0 e k)) i 16 x
      = Ideal.ofBits FTy.f32 0x3F9837F0#32 * a (ix2 i x) + ∑ e : Fin 16384, w (ix2 i e)
        * (Ideal.ofBits FTy.f32 0x3F000000#32 * (∑ k : Fin 2048, a (ix2 i k) * u (ix3 0 e k)) * Ideal.erfc (-(∑ k : Fin 2048, a (ix2 i k) * u (ix3 0 e k)) * Ideal.ofBits FTy.f32 0x3F3504F3#32))
        * v (ix3 0 e x) := by
    intro x
    simp only [Spec.act_eq]
    exact row_full _ _ _ _ _ _
  rw [Spec.layerNorm, Spec.mean]
  simp only [hrow]
  pointwise [val_main_v0, val_main_v1, val_main_v2, val_main_cst, val_main_v3, val_main_v4, val_main_v5, val_main_cst_0, val_main_v6, val_main_v7, val_main_v8,
    val_main_v9, val_main_v10, val_main_v11, val_main_v12, val_main_v13, val_main_cst_1, val_main_v14, val_main_v15, val_main_v16, val_main_v17, val_main_v18, val_main_cst_2, val_main_v19, val_main_v20, val_main_cst_3, val_main_v21, val_main_v22, val_main_v23, val_main_v24, val_main_v25, val_main_cst_4, val_main_v26, val_main_v27, val_main_cst_5, val_main_v28, val_main_v29, val_main_cst_6, val_main_v30, val_main_v31, val_main_v32, val_main_v33, val_main_v34, val_main_v35, val_main_v36, val_main_v37, val_main_v38, val_main_v39, val_main_v40, dot_S32768x2048_S2048x16384_S32768x16384_1_0_0_1_n_n, dot_S32768x16384_S16384x2048_S32768x2048_1_0_0_1_n_n]

end Cert.Experts

end
-- ==== Proof.ExpertsValue.lean ====
/-
  The experts kernel's result, entry by entry, and its equality with the reference's: the accumulator block of a run of
  sixteen grid points holds, after each point, the residual and the experts of the blocks seen so far, and the last point
  replaces it by its layer norm.
-/
module

public import proofs.«01_k».proof.Proof.ExpertsBlocks
public import proofs.«01_k».proof.Proof.ExpertsRef

@[expose] public section

noncomputable section

namespace Cert.Experts

open Cert.KernelIdeal Cert.KernelIdeal.Gen Cert.KernelIdeal.Value Idealize.ShloMosaic Idealize.ShloMosaic.TcCoe Idealize.SL.Sem

/-- One block of experts added to an accumulator, at an entry. -/
theorem pay2_apply (x u : Vec Ideal S1024x2048 .bf16) (w : Vec Ideal S1024x1024 .bf16) (acc : Vec Ideal S1024x2048 .f32)
    (v : Vec Ideal S1024x2048 .bf16) (i : Fin 1024) (d : Fin 2048) :
    k0_pay2 x u w acc v (ix2 i d)
      = acc (ix2 i d) + ∑ e : Fin 1024, w (ix2 i e) * Spec.act (∑ k : Fin 2048, x (ix2 i k) * u (ix2 e k)) * v (ix2 e d) := by
  unfold Spec.act
  pointwise [k0_pay2, dot_S1024x2048_S1024x2048_S1024x1024_1_1_0_0_n_n, dot_S1024x1024_S1024x2048_S1024x2048_1_0_0_1_n_n]
  rfl

/-- The layer norm of a block's rows, at an entry. -/
theorem pay3_apply (a : Vec Ideal S1024x2048 .f32) (g b : Vec Ideal S1x2048 .f32) (i : Fin 1024) (d : Fin 2048) :
    k0_pay3 a g b (ix2 i d) = Spec.layerNorm (fun x => a (ix2 i x)) (g (ix2 0 d)) (b (ix2 0 d)) d := by
  unfold Spec.layerNorm Spec.mean
  pointwise [k0_pay3]

variable (m : (ℓ : Loc nD τ sig) → Buf (Elt Ideal) ℓ) (c : Dev nD)

/-- Token `r`'s row after `n` blocks of experts, over the launched arguments. -/
abbrev rowOf (r : Fin 32768) (n : ℕ) : Fin 2048 → EReal :=
  row (fun r k => m ((c : Thread nD τ).loc main_arg0) (ix2 r k)) (fun r e => m ((c : Thread nD τ).loc main_arg1) (ix2 r e))
    (fun e k => m ((c : Thread nD τ).loc main_arg2) (ix3 0 e k)) (fun e k => m ((c : Thread nD τ).loc main_arg3) (ix3 0 e k)) r n

/-- Adding the point's block of experts to a row of `j` blocks makes it the row of `j + 1` blocks. -/
theorem pay2_row (n j q : ℕ) (h : n < cfg0.N) (hq : n / 16 = q) (hj : n % 16 = j) (acc : Vec Ideal S1024x2048 .f32)
    (i : Fin 1024) (d : Fin 2048) (r : Fin 32768) (hr : r.val = 1024 * q + i.val) (hacc : acc (ix2 i d) = rowOf m c r j d) :
    k0_pay2 (iblk m c 0 ⟨n, h⟩) (iblk m c 1 ⟨n, h⟩) (iblk m c 3 ⟨n, h⟩) acc (iblk m c 2 ⟨n, h⟩) (ix2 i d) = rowOf m c r (j + 1) d := by
  have hj16 : j < 16 := by omega
  refine (pay2_apply (iblk m c 0 ⟨n, h⟩) (iblk m c 1 ⟨n, h⟩) (iblk m c 3 ⟨n, h⟩) acc (iblk m c 2 ⟨n, h⟩) i d).trans ?_
  rw [hacc]
  unfold rowOf row
  rw [Spec.blockSum_succ, ← add_assoc]
  refine congrArg₂ (· + ·) rfl ?_
  refine Finset.sum_congr rfl fun e _ => ?_
  have he : 1024 * j + e.val < 16384 := by have := e.isLt; omega
  rw [term, dif_pos he]
  rw [blk_weights m c ⟨n, h⟩ i e r ⟨1024 * j + e.val, he⟩ (by dsimp only; omega) (by dsimp only; omega),
    blk_down m c ⟨n, h⟩ e d ⟨1024 * j + e.val, he⟩ (by dsimp only; omega)]
  congr 3
  refine Finset.sum_congr rfl fun k _ => ?_
  rw [blk_tokens m c ⟨n, h⟩ i k r (by dsimp only; omega), blk_up m c ⟨n, h⟩ e k ⟨1024 * j + e.val, he⟩ (by dsimp only; omega)]

/-- THE ACCUMULATOR after point `j` of run `q`, for every point but the last: the rows of `j + 1` blocks. -/
theorem acc_row (q : ℕ) (i : Fin 1024) (r : Fin 32768) (hr : r.val = 1024 * q + i.val) :
    ∀ (j : ℕ) (h : 16 * q + j < cfg0.N), j < 15 → ∀ d : Fin 2048,
      Pipeline.accAt (reset7 m c) (step7 m c) (16 * q) j h (ix2 i d) = rowOf m c r (j + 1) d
  | 0, h, _, d => by
    rw [Pipeline.accAt_zero]
    unfold reset7
    refine pay2_row m c _ 0 q _ (by omega) (by omega) _ i d r hr ?_
    unfold rowOf row
    rw [Spec.blockSum, Nat.mul_zero, Finset.range_zero, Finset.sum_empty, add_zero]
    unfold k0_pay1
    pointwise
    exact congrArg (_ * ·) (blk_residual m c ⟨16 * q, h⟩ i d r (by dsimp only; omega))
  | j + 1, h, hj, d => by
    rw [Pipeline.accAt_succ]
    unfold step7
    rw [if_pos (by omega)]
    exact pay2_row m c _ (j + 1) q _ (by omega) (by omega) _ i d r hr (acc_row q i r hr j _ (by omega) d)

/-- THE RUN'S LAST CONTENTS: the layer norm of the row with all sixteen blocks. -/
theorem acc_last (q : ℕ) (i : Fin 1024) (r : Fin 32768) (hr : r.val = 1024 * q + i.val) (h : 16 * q + 15 < cfg0.N) (d : Fin 2048) :
    Pipeline.accAt (reset7 m c) (step7 m c) (16 * q) 15 h (ix2 i d)
      = Spec.layerNorm (rowOf m c r 16) (m ((c : Thread nD τ).loc main_arg4) (ix2 0 d)) (m ((c : Thread nD τ).loc main_arg5) (ix2 0 d)) d := by
  rw [Pipeline.accAt_succ]
  unfold step7
  rw [if_neg (by omega), if_pos (by omega)]
  refine (pay3_apply _ (iblk m c 4 ⟨16 * q + (14 + 1), h⟩) (iblk m c 6 ⟨16 * q + (14 + 1), h⟩) i d).trans ?_
  rw [blk_gain, blk_bias]
  refine congrArg (Spec.layerNorm · _ _ d) (funext fun x => ?_)
  exact pay2_row m c _ 15 q _ (by omega) (by omega) _ i x r hr (acc_row m c q i r hr 14 _ (by omega) x)

/-- THE KERNEL'S RESULT IS THE REFERENCE'S, as a function of the launched arguments. -/
theorem value_eq : G7 m c = Cert.ReferenceIdeal.Read.val_main_v40 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  funext i
  obtain ⟨r, d, rfl⟩ : ∃ (r : Fin 32768) (d : Fin 2048), i = ix2 r d := ⟨i 0, i 1, ValueIdx.eq_ix2 i⟩
  rw [ref_apply]
  have hq : run7Of (ix2 r d) = r.val / 1024 := by
    show 1 * (r.val / 1024 - 0) + 1 * (d.val / 2048 - 0) = _
    have := d.isLt
    omega
  have hN : 16 * run7Of (ix2 r d) + 15 < cfg0.N := by
    rw [hq, show cfg0.N = 512 from N_0]
    have := r.isLt
    omega
  unfold G7
  rw [dif_pos hN]
  have hl : loc7Of (ix2 r d) = ix2 (⟨r.val % 1024, Nat.mod_lt _ (by decide)⟩ : Fin 1024) d := by
    funext a; apply Fin.ext
    match a with
    | ⟨0, _⟩ => rfl
    | ⟨1, _⟩ => exact Nat.mod_eq_of_lt d.isLt
  rw [hl]
  refine acc_last m c _ _ r ?_ hN d
  rw [hq]
  exact (Nat.div_add_mod r.val 1024).symm

end Cert.Experts

end
-- ==== Proof.ProjectionRun.lean ====
/-
  The input projection's kernel: what its body does at a grid point, as two triples — at a row's first column block, where
  the loop normalises the row's inputs into the scratch and computes the gates, and at the others.
-/
module

public import proofs.«01_k».proof.Proof.Gen.Kernel2Ideal.Frame
public import proofs.«01_k».proof.Proof.Gen.Kernel2Ideal.Loops
public import Idealize.ShloMosaic.Lib.Pointwise
public import Idealize.ShloMosaic.Lib.ValueIdx
public import Idealize.ShloMosaic.Lib.WholeRead
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Projection

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The `k`-th group of 256 rows of a block of 1024. -/
def rows (x0 : Vec F S1024x2048 .f32) (k : Fin 4) : Vec F S256x2048 .f32 :=
  fun z => x0 (ix2 (⟨256 * k.val + (z 0).val, by have := (z 0).isLt; have := k.isLt; change (z 0).val < 256 at *; omega⟩ : Fin 1024) (z 1))

/-- The normalised rows the first column block of a row keeps for the others. -/
def hbOf (x0 : Vec F S1024x2048 .f32) (x1 x2 : Vec F S1x2048 .f32) : Vec F S1024x2048 .bf16 :=
  fun y => k0_pay2 (rows x0 (⟨(y 0).val / 256, by have : (y 0).val < 1024 := (y 0).isLt; omega⟩ : Fin 4)) x1 x2
    (ix2 (⟨(y 0).val % 256, Nat.mod_lt _ (by decide)⟩ : Fin 256) (y 1))

/-- The gate rows the first column block of a row computes. -/
def gateOf (x0 : Vec F S1024x2048 .f32) (x1 x2 : Vec F S1x2048 .f32) (x4 : Vec F S2048x128 .bf16) : Vec F S1024x128 .f32 :=
  fun y => k0_pay3 (rows x0 (⟨(y 0).val / 256, by have : (y 0).val < 1024 := (y 0).isLt; omega⟩ : Fin 4)) x1 x2 x4
    (ix2 (⟨(y 0).val % 256, Nat.mod_lt _ (by decide)⟩ : Fin 256) (y 1))

/-- The loop makes four trips. -/
theorem trips_eq : k0_t1_loop.trips = 4 := by decide +kernel

/-- Trip `k` works on the rows from `256 k`. -/
theorem off1_eq (k : Fin k0_t1_loop.trips) : k0_off1 k = ![256 * k.val, 0] := by
  revert k; decide +kernel
theorem off2_eq (k : Fin k0_t1_loop.trips) : k0_off2 k = ![256 * k.val, 0] := by
  revert k; decide +kernel

section Trip

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x1792 .bf16) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole) (arg9 : Memref sig .tc .vmem S1024x2048 .bf16) (harg9 : arg9.IsWhole) (hc : k0_cond1 i = 1#1)
  (x0 : Vec F S1024x2048 .f32) (x1 x2 : Vec F S1x2048 .f32) (x4 : Vec F S2048x128 .bf16)

/-- What one trip stores in the gate block. -/
theorem trip_gate (k : Fin k0_t1_loop.trips) :
    (trip_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) k).1
      = [⟨Rect.unit (s := S1024x128) (k0_off2 k) S256x128.size (k0_off2_inb i k hc),
          k0_pay3 (arg2.view.readAt (Elt F) (Rect.unit (s := S1024x2048) (k0_off1 k) S256x2048.size (k0_off1_inb i k hc)).toLoadRect (harg2.unread x0))
            (arg3.view.readAt (Elt F) (Rect.unit (s := S1x2048) ![0, 0] S1x2048.size inb_S1x2048_S1x2048_0_0).toLoadRect (harg3.unread x1))
            (arg4.view.readAt (Elt F) (Rect.unit (s := S1x2048) ![0, 0] S1x2048.size inb_S1x2048_S1x2048_0_0).toLoadRect (harg4.unread x2))
            (arg6.view.readAt (Elt F) (Rect.unit (s := S2048x128) ![0, 0] S2048x128.size inb_S2048x128_S2048x128_0_0).toLoadRect (harg6.unread x4))⟩] := by
  unfold trip_k0_t1; rfl

/-- What one trip stores in the scratch. -/
theorem trip_hb (k : Fin k0_t1_loop.trips) :
    (trip_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) k).2.1
      = [⟨Rect.unit (s := S1024x2048) (k0_off1 k) S256x2048.size (k0_off1_inb i k hc),
          k0_pay2 (arg2.view.readAt (Elt F) (Rect.unit (s := S1024x2048) (k0_off1 k) S256x2048.size (k0_off1_inb i k hc)).toLoadRect (harg2.unread x0))
            (arg3.view.readAt (Elt F) (Rect.unit (s := S1x2048) ![0, 0] S1x2048.size inb_S1x2048_S1x2048_0_0).toLoadRect (harg3.unread x1))
            (arg4.view.readAt (Elt F) (Rect.unit (s := S1x2048) ![0, 0] S1x2048.size inb_S1x2048_S1x2048_0_0).toLoadRect (harg4.unread x2))⟩] := by
  unfold trip_k0_t1; rfl

/-- A trip's rows of the block. -/
theorem ld_rows (k : Fin k0_t1_loop.trips) (k' : Fin 4) (hk : k'.val = k.val) :
    arg2.view.readAt (Elt F) (Rect.unit (s := S1024x2048) (k0_off1 k) S256x2048.size (k0_off1_inb i k hc)).toLoadRect (harg2.unread x0) = rows x0 k' := by
  rw [View.readAt_eq_ld, harg2.read_unread]
  funext z
  refine View.ld_unit_apply_of x0 _ _ _ z _ fun a => ?_
  match a with
  | ⟨0, _⟩ =>
    have h : k0_off1 k 0 = 256 * k.val := congrFun (off1_eq k) 0
    show 256 * k'.val + (z 0).val = k0_off1 k 0 + (z 0).val; omega
  | ⟨1, _⟩ =>
    have h : k0_off1 k 1 = 0 := congrFun (off1_eq k) 1
    show (z 1).val = k0_off1 k 1 + (z 1).val; omega

/-- The gain and the bias, read whole. -/
theorem ld_row (a : Memref sig .tc .vmem S1x2048 .f32) (ha : a.IsWhole) (x : Vec F S1x2048 .f32) :
    a.view.readAt (Elt F) (Rect.unit (s := S1x2048) ![0, 0] S1x2048.size inb_S1x2048_S1x2048_0_0).toLoadRect (ha.unread x) = x := by
  rw [View.readAt_eq_ld, ha.read_unread]
  exact View.ld_unit_zero (by decide) _ _

/-- The gate weights, read whole. -/
theorem ld_gate : arg6.view.readAt (Elt F) (Rect.unit (s := S2048x128) ![0, 0] S2048x128.size inb_S2048x128_S2048x128_0_0).toLoadRect (harg6.unread x4) = x4 := by
  rw [View.readAt_eq_ld, harg6.read_unread]
  exact View.ld_unit_zero (by decide) _ _

/-- Every piece the loop stores in the scratch is the rows of `hbOf` its rectangle names. -/
theorem pieces_hb (n : ℕ) (hn : n ≤ k0_t1_loop.trips) :
    ∀ p ∈ (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) n).2, ∀ x : p.1.shape.Idx, p.2 x = hbOf x0 x1 x2 (p.1.emb x) := by
  induction n with
  | zero => intro p hp; exact absurd hp List.not_mem_nil
  | succ n ih =>
    have e := pb_k0_t1_succ (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩
    intro p hp
    rw [show (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) (n + 1)).2 = _ from congrArg Prod.snd e] at hp
    rcases List.mem_append.mp hp with hp | hp
    · rw [show (tripL_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩).2 = _ from trip_hb c i arg2 harg2 arg3 harg3 arg4 harg4 arg5 harg5 arg6 harg6 arg7 harg7 arg8 harg8 arg9 harg9 hc x0 x1 x2 x4 ⟨n, hn⟩] at hp
      obtain rfl := List.mem_singleton.mp hp
      intro x
      have hn4 : n < 4 := by rw [← trips_eq]; exact hn
      dsimp only
      rw [ld_rows i arg2 harg2 hc x0 ⟨n, hn⟩ ⟨n, hn4⟩ rfl, ld_row, ld_row]
      have hx : (x 0).val < 256 := (x 0).isLt
      have h0 : ((Rect.unit (s := S1024x2048) (k0_off1 ⟨n, hn⟩) S256x2048.size (k0_off1_inb i ⟨n, hn⟩ hc)).emb x 0).val = 256 * n + (x 0).val := by
        refine (Rect.emb_apply _ x 0).trans ?_
        have h : k0_off1 ⟨n, hn⟩ 0 = 256 * n := congrFun (off1_eq ⟨n, hn⟩) 0
        show k0_off1 ⟨n, hn⟩ 0 + 1 * (x 0).val = _; omega
      have h1 : ((Rect.unit (s := S1024x2048) (k0_off1 ⟨n, hn⟩) S256x2048.size (k0_off1_inb i ⟨n, hn⟩ hc)).emb x 1).val = (x 1).val := by
        refine (Rect.emb_apply _ x 1).trans ?_
        have h : k0_off1 ⟨n, hn⟩ 1 = 0 := congrFun (off1_eq ⟨n, hn⟩) 1
        show k0_off1 ⟨n, hn⟩ 1 + 1 * (x 1).val = _; omega
      unfold hbOf
      congr 1
      · congr 1
        exact Fin.ext (by show n = _ / 256; rw [h0]; omega)
      · funext a
        match a with
        | ⟨0, _⟩ => exact Fin.ext (by show (x 0).val = _ % 256; rw [h0]; omega)
        | ⟨1, _⟩ => exact Fin.ext h1.symm
    · exact ih (Nat.le_of_succ_le hn) p hp

/-- The pieces of the first `n` trips cover the first `256 n` rows of the scratch. -/
theorem cover_hb (n : ℕ) (hn : n ≤ k0_t1_loop.trips) (y : S1024x2048.Idx) (hy : (y 0).val < 256 * n) :
    ∃ p ∈ (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) n).2, y ∈ p.1.set := by
  induction n with
  | zero => omega
  | succ n ih =>
    have e := pb_k0_t1_succ (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩
    rw [show (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) (n + 1)).2 = _ from congrArg Prod.snd e]
    by_cases h : (y 0).val < 256 * n
    · obtain ⟨p, hp, hy⟩ := ih (Nat.le_of_succ_le hn) h
      exact ⟨p, List.mem_append_right _ hp, hy⟩
    · refine ⟨_, List.mem_append_left _ (by rw [show (tripL_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩).2 = _ from trip_hb c i arg2 harg2 arg3 harg3 arg4 harg4 arg5 harg5 arg6 harg6 arg7 harg7 arg8 harg8 arg9 harg9 hc x0 x1 x2 x4 ⟨n, hn⟩]; exact List.mem_singleton_self _), ?_⟩
      refine (Rect.mem_set_unit (inb := k0_off1_inb i ⟨n, hn⟩ hc)).mpr fun a => ?_
      rw [off1_eq]
      match a with
      | ⟨0, _⟩ => show 256 * n ≤ (y 0).val ∧ (y 0).val < 256 * n + 256; omega
      | ⟨1, _⟩ => exact ⟨Nat.zero_le _, by have : (y 1).val < 2048 := (y 1).isLt; show (y 1).val < 0 + 2048; omega⟩
/-- Every piece the loop stores in the gate block is the rows of `gateOf` its rectangle names. -/
theorem pieces_gate (n : ℕ) (hn : n ≤ k0_t1_loop.trips) :
    ∀ p ∈ (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) n).1, ∀ x : p.1.shape.Idx, p.2 x = gateOf x0 x1 x2 x4 (p.1.emb x) := by
  induction n with
  | zero => intro p hp; exact absurd hp List.not_mem_nil
  | succ n ih =>
    have e := pb_k0_t1_succ (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩
    intro p hp
    rw [show (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) (n + 1)).1 = _ from congrArg Prod.fst e] at hp
    rcases List.mem_append.mp hp with hp | hp
    · rw [show (tripL_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩).1 = _ from trip_gate c i arg2 harg2 arg3 harg3 arg4 harg4 arg5 harg5 arg6 harg6 arg7 harg7 arg8 harg8 arg9 harg9 hc x0 x1 x2 x4 ⟨n, hn⟩] at hp
      obtain rfl := List.mem_singleton.mp hp
      intro x
      have hn4 : n < 4 := by rw [← trips_eq]; exact hn
      dsimp only
      rw [ld_rows i arg2 harg2 hc x0 ⟨n, hn⟩ ⟨n, hn4⟩ rfl, ld_row, ld_row, ld_gate]
      have hx : (x 0).val < 256 := (x 0).isLt
      have h0 : ((Rect.unit (s := S1024x128) (k0_off2 ⟨n, hn⟩) S256x128.size (k0_off2_inb i ⟨n, hn⟩ hc)).emb x 0).val = 256 * n + (x 0).val := by
        refine (Rect.emb_apply _ x 0).trans ?_
        have h : k0_off2 ⟨n, hn⟩ 0 = 256 * n := congrFun (off2_eq ⟨n, hn⟩) 0
        show k0_off2 ⟨n, hn⟩ 0 + 1 * (x 0).val = _; omega
      have h1 : ((Rect.unit (s := S1024x128) (k0_off2 ⟨n, hn⟩) S256x128.size (k0_off2_inb i ⟨n, hn⟩ hc)).emb x 1).val = (x 1).val := by
        refine (Rect.emb_apply _ x 1).trans ?_
        have h : k0_off2 ⟨n, hn⟩ 1 = 0 := congrFun (off2_eq ⟨n, hn⟩) 1
        show k0_off2 ⟨n, hn⟩ 1 + 1 * (x 1).val = _; omega
      unfold gateOf
      congr 1
      · congr 1
        exact Fin.ext (by show n = _ / 256; rw [h0]; omega)
      · funext a
        match a with
        | ⟨0, _⟩ => exact Fin.ext (by show (x 0).val = _ % 256; rw [h0]; omega)
        | ⟨1, _⟩ => exact Fin.ext h1.symm
    · exact ih (Nat.le_of_succ_le hn) p hp

/-- The pieces of the first `n` trips cover the first `256 n` rows of the gate block. -/
theorem cover_gate (n : ℕ) (hn : n ≤ k0_t1_loop.trips) (y : S1024x128.Idx) (hy : (y 0).val < 256 * n) :
    ∃ p ∈ (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) n).1, y ∈ p.1.set := by
  induction n with
  | zero => omega
  | succ n ih =>
    have e := pb_k0_t1_succ (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩
    rw [show (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) (n + 1)).1 = _ from congrArg Prod.fst e]
    by_cases h : (y 0).val < 256 * n
    · obtain ⟨p, hp, hy⟩ := ih (Nat.le_of_succ_le hn) h
      exact ⟨p, List.mem_append_right _ hp, hy⟩
    · refine ⟨_, List.mem_append_left _ (by rw [show (tripL_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) ⟨n, hn⟩).1 = _ from trip_gate c i arg2 harg2 arg3 harg3 arg4 harg4 arg5 harg5 arg6 harg6 arg7 harg7 arg8 harg8 arg9 harg9 hc x0 x1 x2 x4 ⟨n, hn⟩]; exact List.mem_singleton_self _), ?_⟩
      refine (Rect.mem_set_unit (inb := k0_off2_inb i ⟨n, hn⟩ hc)).mpr fun a => ?_
      rw [off2_eq]
      match a with
      | ⟨0, _⟩ => show 256 * n ≤ (y 0).val ∧ (y 0).val < 256 * n + 256; omega
      | ⟨1, _⟩ => exact ⟨Nat.zero_le _, by have : (y 1).val < 128 := (y 1).isLt; show (y 1).val < 0 + 128; omega⟩

/-- After the loop the scratch holds the block's normalised rows; -/
theorem read_hb (f : BufTy.Contents (Elt F) arg9.view.ty) : arg9.view.read (Elt F) (arg9.view.writes (Elt F) f (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) k0_t1_loop.trips).2) = hbOf x0 x1 x2 := by
  have hcov := fun y : S1024x2048.Idx => cover_hb c i arg2 harg2 arg3 harg3 arg4 harg4 arg5 harg5 arg6 harg6 arg7 harg7 arg8 harg8 arg9 harg9 hc x0 x1 x2 x4 _ (le_refl _) y (by rw [trips_eq]; exact (y 0).isLt)
  rw [View.read_writes_eq_canon _ _ _ hcov]
  exact funext fun y => View.canon_apply_of_pieces _ _ (pieces_hb c i arg2 harg2 arg3 harg3 arg4 harg4 arg5 harg5 arg6 harg6 arg7 harg7 arg8 harg8 arg9 harg9 hc x0 x1 x2 x4 _ (le_refl _)) y (hcov y)

/-- and the gate block the block's gate rows. -/
theorem read_gate (f : BufTy.Contents (Elt F) arg8.view.ty) : arg8.view.read (Elt F) (arg8.view.writes (Elt F) f (pb_k0_t1 (F := F) Variants.none c none i arg2 harg2 arg3 harg3 arg4 harg4 arg5 harg5 arg6 harg6 arg7 harg7 arg8 harg8 arg9 harg9 hc (harg2.unread x0) (harg3.unread x1) (harg4.unread x2) (harg6.unread x4) k0_t1_loop.trips).1) = gateOf x0 x1 x2 x4 := by
  have hcov := fun y : S1024x128.Idx => cover_gate c i arg2 harg2 arg3 harg3 arg4 harg4 arg5 harg5 arg6 harg6 arg7 harg7 arg8 harg8 arg9 harg9 hc x0 x1 x2 x4 _ (le_refl _) y (by rw [trips_eq]; exact (y 0).isLt)
  rw [View.read_writes_eq_canon _ _ _ hcov]
  exact funext fun y => View.canon_apply_of_pieces _ _ (pieces_gate c i arg2 harg2 arg3 harg3 arg4 harg4 arg5 harg5 arg6 harg6 arg7 harg7 arg8 harg8 arg9 harg9 hc x0 x1 x2 x4 _ (le_refl _)) y (hcov y)

/-- A block stored whole is what is then held. -/
theorem read_store (f : BufTy.Contents (Elt F) arg7.view.ty) (w : Vec F S1024x1792 .bf16) :
    arg7.view.read (Elt F) (arg7.view.writes (Elt F) f [⟨Rect.unit ![0, 0] S1024x1792.size inb_S1024x1792_S1024x1792_0_0, w⟩]) = w := by
  rw [View.read_writes_eq_canon _ _ _ (fun y => ⟨_, List.mem_singleton_self _, View.mem_set_unit_zero (by decide) inb_S1024x1792_S1024x1792_0_0 y⟩), View.canon_unit_zero (by decide)]

/-- The projection weights, read whole. -/
theorem ld_main (x3 : Vec F S2048x1792 .bf16) :
    arg5.view.readAt (Elt F) (Rect.unit ![0, 0] S2048x1792.size inb_S2048x1792_S2048x1792_0_0).toLoadRect (harg5.unread x3) = x3 := by
  rw [View.readAt_eq_ld, harg5.read_unread]
  exact View.ld_unit_zero (by decide) _ _

/-- The scratch, read whole. -/
theorem ld_scratch (f : BufTy.Contents (Elt F) arg9.view.ty) (x : Vec F S1024x2048 .bf16) (h : arg9.view.read (Elt F) f = x) :
    arg9.view.readAt (Elt F) (Rect.unit ![0, 0] S1024x2048.size inb_S1024x2048_S1024x2048_0_0).toLoadRect f = x := by
  rw [View.readAt_eq_ld, h]
  exact View.ld_unit_zero (by decide) _ _

include hc in
set_option maxHeartbeats 1000000 in
/-- The body at a row's first column block: it fills the scratch and the gate block, and stores the block of the
    projection computed from the scratch it has just filled. -/
theorem run_first (x3 : Vec F S2048x1792 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (hbOf x0 x1 x2) x3) ∗ owns (c : Thread nD τ) arg8 fullShare (gateOf x0 x1 x2 x4) ∗ owns (c : Thread nD τ) arg9 fullShare (hbOf x0 x1 x2)) -∗ K ⟨⟩))
      ⊢ wp frame (wpE (defs₀ (F := F)) Variants.none c none) E (cc0_ln_proj i arg2 harg2 arg3 harg3 arg4 harg4 arg5 harg5 arg6 harg6 arg7 harg7 arg8 harg8 arg9 harg9) K := by
  simp only [cc0_ln_proj_eq_skeleton]; unfold cc0_ln_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_store arg7 f5 _).trans (congrArg₂ k0_pay4 ?_ (ld_main arg5 harg5 x3))
    exact ld_scratch arg9 _ _ (read_hb c i arg2 harg2 arg3 harg3 arg4 harg4 arg5 harg5 arg6 harg6 arg7 harg7 arg8 harg8 arg9 harg9 hc x0 x1 x2 x4 fs0)
  isplitl [H6]
  · iexists _; isplitr
    swap; · iexact H6
    ipureintro
    exact read_gate c i arg2 harg2 arg3 harg3 arg4 harg4 arg5 harg5 arg6 harg6 arg7 harg7 arg8 harg8 arg9 harg9 hc x0 x1 x2 x4 f6
  iexists _; isplitr
  swap; · iexact HS0
  ipureintro
  exact read_hb c i arg2 harg2 arg3 harg3 arg4 harg4 arg5 harg5 arg6 harg6 arg7 harg7 arg8 harg8 arg9 harg9 hc x0 x1 x2 x4 fs0

set_option maxHeartbeats 1000000 in
/-- The body at a row's other column blocks: the scratch and the gate block are kept, and the block of the projection is
    computed from the scratch. -/
theorem run_rest (hc' : ¬ k0_cond1 i = 1#1) (x3 : Vec F S2048x1792 .bf16) (g : Vec F S1024x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare g ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 xs x3) ∗ owns (c : Thread nD τ) arg8 fullShare g ∗ owns (c : Thread nD τ) arg9 fullShare xs) -∗ K ⟨⟩))
      ⊢ wp frame (wpE (defs₀ (F := F)) Variants.none c none) E (cc0_ln_proj i arg2 harg2 arg3 harg3 arg4 harg4 arg5 harg5 arg6 harg6 arg7 harg7 arg8 harg8 arg9 harg9) K := by
  simp only [cc0_ln_proj_eq_skeleton]; unfold cc0_ln_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc')
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_store arg7 f5 _).trans (congrArg₂ k0_pay4 ?_ (ld_main arg5 harg5 x3))
    exact ld_scratch arg9 _ _ hfs0
  isplitl [H6]
  · iexists _; isplitr; · ipureintro; exact hf6
    iexact H6
  iexists _; isplitr; · ipureintro; exact hfs0
  iexact HS0

end Trip
end Cert.Projection
end
-- ==== Proof.ProjectionFrame.lean ====
/-
  The input projection's kernel runs to the end from any memory, leaves its arguments alone, and ends with every array at
  what its grid points wrote: the frame over any number format, and the blocks of the two results.
-/
module

public import proofs.«01_k».proof.Proof.ProjectionRun
public import Idealize.ShloMosaic.Lib.Claim
public import Idealize.ShloMosaic.Lib.Pipeline.TableIdle

@[expose] public section

set_option maxRecDepth 16384

noncomputable section

namespace Cert.Projection

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is its row's first when its column block is the first. -/
theorem hcond (t : Fin cfg0.N) : k0_cond1 (grid0.coords t) = 1#1 ↔ t.val % 4 = 0 := by
  have ht : t.val < 128 := Nat.lt_of_lt_of_eq t.isLt N_0
  have e0 : (grid0.coords t 0).val = t.val / 4 % 32 := Pipeline.Grid.coords_val t 0 (by decide) rfl
  have e1 : (grid0.coords t 1).val = t.val / 1 % 4 := Pipeline.Grid.coords_val t 1 (by decide) rfl
  simp only [k0_cond1, e0, e1]
  word_cmp

/-- The first point of a point's row of blocks. -/
def rowStart (t : Fin cfg0.N) : Fin cfg0.N := ⟨4 * (t.val / 4), lt_of_le_of_lt (Nat.mul_div_le _ _) t.isLt⟩

theorem rowStart_first (t : Fin cfg0.N) (h : t.val % 4 = 0) : rowStart t = t :=
  Fin.ext (by show 4 * (t.val / 4) = t.val; omega)

theorem rowStart_prev (t : Fin cfg0.N) (h : ¬ t.val % 4 = 0) (hn : t.val - 1 < cfg0.N) : rowStart ⟨t.val - 1, hn⟩ = rowStart t :=
  Fin.ext (by show 4 * ((t.val - 1) / 4) = 4 * (t.val / 4); omega)

/-- The normalised rows computed at point `t`, -/
def hbAt (c : Dev nD) (t : Fin cfg0.N) : Vec F S1024x2048 .bf16 := hbOf (iblk m c 0 t) (iblk m c 1 t) (iblk m c 2 t)

/-- and the gates. -/
def gateAt (c : Dev nD) (t : Fin cfg0.N) : Vec F S1024x128 .f32 := gateOf (iblk m c 0 t) (iblk m c 1 t) (iblk m c 2 t) (iblk m c 4 t)

/-- The scratch operand. -/
abbrev scM : Memref sig .tc .vmem S1024x2048 .bf16 := Memref.whole cc0_scratch0

/-- What the launch hands over, with the scratch as a memref at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before the first point the scratch holds anything; before any other, the normalised rows of the row of blocks the
    point before is in. -/
def PhiS (c : Dev nD) : (n : ℕ) → n ≤ cfg0.N → sProp 𝕄
  | 0, _ => Pipeline.ΦA spec0 c
  | n + 1, hn => iprop(iprop(owns (c : Thread nD τ) scM fullShare (hbAt m c (rowStart ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (hbAt m c (rowStart ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM fullShare (hbAt m c (rowStart ⟨n - 1, by omega⟩))) ∗ (∃ r, prngReg c r)) := by
  cases n with
  | zero => exact absurd rfl hz
  | succ n => rfl

/-- The pipeline's proof data: each input's buffer at its block, the projection's block computed from the row's normalised
    inputs, the gate block the row's gates. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (hbAt m c (rowStart t)) (iblk m c 3 t)
    | ⟨6, _⟩ => gateAt m c (rowStart t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay4 (hbAt m c (rowStart t)) (iblk m c 3 t) := by dsimp only [dats]
theorem after_6 (c : Dev nD) (t : Fin cfg0.N) : (dats m 0 c).after 6 t = gateAt m c (rowStart t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The gate buffer is stored into at a row's first point only. -/
theorem idle_eq (t : Fin cfg0.N) : cfg0.idle 6 (cfg0.grid.coords t) = !decide (t.val % 4 = 0) := by
  show (!(k0_cond1 (grid0.coords t) == 1#1)) = _
  by_cases h : t.val % 4 = 0
  · rw [(hcond t).mpr h, h]; rfl
  · rw [decide_eq_false h, beq_eq_false_iff_ne.mpr (fun e => h ((hcond t).mp e))]

/-- It holds nothing of the body's before a row's first point. -/
theorem fresh_eq (n : ℕ) (hn : n ≤ cfg0.N) : cfg0.fresh 6 n = decide (n % 4 = 0) := by
  refine Pipeline.Cfg.fresh_tab cfg0 6 (fun n => decide (n % 4 = 0)) rfl (fun t => ?_) n hn
  rw [idle_eq t]
  have hf : (cfg0.win 6).flush t = decide (t.val % 4 = 3) := by
    rw [Bool.eq_iff_iff, flush0_6 t, decide_eq_true_iff]
  rw [hf, Bool.eq_iff_iff]
  simp only [Bool.or_eq_true, Bool.and_eq_true, Bool.not_eq_true', decide_eq_true_eq, decide_eq_false_iff_not]
  omega

/-- Inside a row of blocks the gate buffer is not written back: it holds what the row's first point left. -/
theorem before6_kept (c : Dev nD) (t : Fin cfg0.N) (h0 : ¬ t.val % 4 = 0) (d) :
    (dats m 0 c).before 6 t d = gateAt m c (rowStart t) := by
  have hz : t.val ≠ 0 := fun h => h0 (by rw [h])
  rw [Pipeline.Dat.before_out_traj (dats m 0 c) 6 rfl (fun _ _ => rfl) (fun t ht hi _ => by
    have h : ¬ t.val % 4 = 0 := fun h => by rw [idle_eq t, h] at hi; exact absurd hi (by decide)
    rw [after_6, after_6, rowStart_prev t h]) t.val t rfl d, fresh_eq t.val (Nat.le_of_lt t.isLt), decide_eq_false h0]
  rw [if_neg Bool.false_ne_true, after_6, rowStart_prev t h0]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_succ]
  rw [show (⟨t.val, t.isLt⟩ : Fin cfg0.N) = t from rfl]
  by_cases h0 : t.val % 4 = 0
  · by_cases hz : t.val = 0
    · rw [Phi_castSucc m c t, PhiS_zero m c _ _ hz, PhiA_eq]
      rw [rowStart_first t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) _ _ _ _ _ _ _ _ _ _ _ _ _ _ _ _ ((hcond t).mpr h0) (iblk m c 0 t) (iblk m c 1 t) (iblk m c 2 t) (iblk m c 4 t) (iblk m c 3 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi_castSucc m c t, PhiS_pos m c _ _ hz]
      rw [rowStart_first t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) _ _ _ _ _ _ _ _ _ _ _ _ _ _ _ _ ((hcond t).mpr h0) (iblk m c 0 t) (iblk m c 1 t) (iblk m c 2 t) (iblk m c 4 t) (iblk m c 3 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [Phi_castSucc m c t, PhiS_pos m c _ _ hz, rowStart_prev t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    rw [before6_kept m c t h0 d6]
    iapply (run_rest c (grid0.coords t) _ _ _ _ _ _ _ _ _ _ _ _ _ _ _ _ (iblk m c 0 t) (iblk m c 1 t) (iblk m c 2 t) (iblk m c 4 t) (fun h => h0 ((hcond t).mp h)) (iblk m c 3 t) (gateAt m c (rowStart t)) (hbAt m c (rowStart t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The gate buffer as the pipeline asks it back: at what the row's first point left. -/
theorem post_6 (c : Dev nD) (t : Fin cfg0.N) :
    owns (c : Thread nD τ) (win0_6.stage (cfg0.slots t 6)) fullShare ((dats m 0 c).after 6 t)
      ⊢ (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄) := by
  rw [idle_eq t]
  by_cases h0 : t.val % 4 = 0
  · rw [decide_eq_true h0]; exact .rfl
  · rw [decide_eq_false h0]
    cases (cfg0.win 6).flush t
    · show _ ⊢ iprop(∃ d, owns (c : Thread nD τ) ((cfg0.win 6).stage (cfg0.slots t 6)) fullShare ((dats m 0 c).before 6 t d))
      iintro H
      iexists (gateAt m c t)
      rw [before6_kept m c t h0, after_6]
      iexact H
    · exact .rfl

/-- The body table's row is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (post_6 m c t)
  iexact H6

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, Hg⟩
  isplitl [HS0]
  · iexists _; iexact HS0
  iexact Hg

set_option backward.isDefEq.respectTransparency.types false in
/-- Every run from any memory with counters at zero ends, with every array of the pipeline at what the proof data says and
    every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Projection

end
-- ==== Proof.ProjectionRef.lean ====
/-
  The input projection's reference, entry by entry: the layer norm of a token's inputs, multiplied into the projection's
  columns and into the gates', the gates in an array of 128 lanes.
-/
module

public import proofs.«01_k».proof.Proof.Gen.Reference2Ideal.Read
public import proofs.«01_k».proof.Proof.LayerNorm
public import Idealize.ShloMosaic.Lib.Pointwise
public import Idealize.ShloMosaic.Lib.ValueIdx
public import Idealize.ShloMosaic.Lib.Tactic

@[expose] public section

noncomputable section

namespace Cert.Projection

open Cert.Reference2Ideal Cert.Reference2Ideal.Gen Cert.Reference2Ideal.Read Idealize.ShloMosaic Idealize.ShloMosaic.TcCoe

/-- Column `j` of the product of a normalised row and the weights: the row `f`, the gain `g`, the bias `b`, the column `w`. -/
def product (f g b w : Fin 2048 → EReal) : EReal := ∑ k, Spec.layerNorm f (g k) (b k) k * w k

variable (x0 : (⟨S2x16384x2048, .f32⟩ : BufTy).Contents (Elt Ideal)) (x1 x2 : (⟨S2048, .f32⟩ : BufTy).Contents (Elt Ideal))
  (x3 : (⟨S1x2048x7184, .f32⟩ : BufTy).Contents (Elt Ideal))

/-- The reference's layer norm. -/
theorem norm_apply (b : Fin 2) (s : Fin 16384) (d : Fin 2048) :
    val_main_v21 (F := Ideal) x0 x1 x2 (ix3 b s d)
      = Spec.layerNorm (fun y => x0 (ix3 b s y)) (x1 (ix1 d)) (x2 (ix1 d)) d := by
  unfold Spec.layerNorm Spec.mean
  pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_v15, val_main_v16, val_main_v17, val_main_v18, val_main_v19, val_main_v20, val_main_v21]

/-- The reference's product, all columns. -/
theorem product_apply (b : Fin 2) (s : Fin 16384) (j : Fin 7184) :
    val_main_v23 (F := Ideal) x0 x1 x2 x3 (ix3 b s j)
      = product (fun y => x0 (ix3 b s y)) (fun y => x1 (ix1 y)) (fun y => x2 (ix1 y)) (fun y => x3 (ix3 0 y j)) := by
  unfold product
  pointwise [val_main_v22, val_main_v23, dot_S2x16384x2048_S2048x7184_S2x16384x7184_2_0_01_1_n_n, norm_apply]

/-- The reference's first result, the projection. -/
theorem ref_main (n : Fin 32768) (j : Fin 7168) :
    val_main_v27 (F := Ideal) x0 x1 x2 x3 (ix2 n j)
      = product (fun y => x0 (ix3 ⟨n.val / 16384, by have := n.isLt; omega⟩ ⟨n.val % 16384, by omega⟩ y)) (fun y => x1 (ix1 y)) (fun y => x2 (ix1 y))
          (fun y => x3 (ix3 0 y (⟨j.val, by have := j.isLt; omega⟩ : Fin 7184))) := by
  pointwise [val_main_v24, val_main_v25, val_main_v27, product_apply]

/-- The reference's second result, the gates: zero from lane 16 on. -/
theorem ref_gates (n : Fin 32768) (l : Fin 128) :
    val_main_v28 (F := Ideal) x0 x1 x2 x3 (ix2 n l)
      = if h : l.val < 16 then product (fun y => x0 (ix3 ⟨n.val / 16384, by have := n.isLt; omega⟩ ⟨n.val % 16384, by omega⟩ y)) (fun y => x1 (ix1 y)) (fun y => x2 (ix1 y))
          (fun y => x3 (ix3 0 y (⟨7168 + l.val, by omega⟩ : Fin 7184))) else 0 := by
  pointwise [val_main_c, val_main_call0_v0, val_main_v24, val_main_v26, val_main_v28, product_apply]
  split
  · rfl
  · show (((0#32 : BitVec 32).toInt : ℝ) : EReal) = 0
    simp

end Cert.Projection

end
-- ==== Proof.ProjectionBlocks.lean ====
module
public import proofs.«01_k».proof.Proof.ProjectionFrame
public import proofs.«01_k».proof.Proof.ProjectionRef

@[expose] public section

noncomputable section

namespace Cert.Projection

open Cert.Kernel2Ideal Cert.Kernel2Ideal.Gen Idealize.ShloMosaic Idealize.ShloMosaic.TcCoe

/-- A trip's normalised rows. -/
theorem pay1_apply (v : Vec Ideal S256x2048 .f32) (g b : Vec Ideal S1x2048 .f32) (r : Fin 256) (d : Fin 2048) :
    k0_pay1 v g b (ix2 r d) = Spec.layerNorm (fun y => v (ix2 r y)) (g (ix2 0 d)) (b (ix2 0 d)) d := by
  unfold Spec.layerNorm Spec.mean
  pointwise [k0_pay1]

/-- The same as stored in the scratch. -/
theorem pay2_apply (v : Vec Ideal S256x2048 .f32) (g b : Vec Ideal S1x2048 .f32) (r : Fin 256) (d : Fin 2048) :
    k0_pay2 v g b (ix2 r d) = Spec.layerNorm (fun y => v (ix2 r y)) (g (ix2 0 d)) (b (ix2 0 d)) d := by
  pointwise [k0_pay2, pay1_apply]

/-- A trip's gates. -/
theorem pay3_apply (v : Vec Ideal S256x2048 .f32) (g b : Vec Ideal S1x2048 .f32) (w : Vec Ideal S2048x128 .bf16) (r : Fin 256) (l : Fin 128) :
    k0_pay3 v g b w (ix2 r l) = product (fun y => v (ix2 r y)) (fun y => g (ix2 0 y)) (fun y => b (ix2 0 y)) (fun y => w (ix2 y l)) := by
  unfold product
  pointwise [k0_pay3, pay1_apply, dot_S256x2048_S2048x128_S256x128_1_0_0_1_n_n]

/-- A block of the projection. -/
theorem pay4_apply (h : Vec Ideal S1024x2048 .bf16) (w : Vec Ideal S2048x1792 .bf16) (r : Fin 1024) (j : Fin 1792) :
    k0_pay4 h w (ix2 r j) = ∑ k : Fin 2048, h (ix2 r k) * w (ix2 k j) := by
  pointwise [k0_pay4, dot_S1024x2048_S2048x1792_S1024x1792_1_0_0_1_n_n]

/-- A row of a group of rows is the row of the block. -/
theorem rows_apply (x : Vec Ideal S1024x2048 .f32) (r : Fin 1024) (y : Fin 2048) (h1 h2) :
    rows x (⟨r.val / 256, h1⟩ : Fin 4) (ix2 (⟨r.val % 256, h2⟩ : Fin 256) y) = x (ix2 r y) := by
  unfold rows
  congr 1
  funext a
  match a with
  | ⟨0, _⟩ => exact Fin.ext (by show 256 * (r.val / 256) + r.val % 256 = r.val; omega)
  | ⟨1, _⟩ => rfl

/-- The normalised rows of a block. -/
theorem hbOf_apply (x : Vec Ideal S1024x2048 .f32) (g b : Vec Ideal S1x2048 .f32) (r : Fin 1024) (d : Fin 2048) :
    hbOf x g b (ix2 r d) = Spec.layerNorm (fun y => x (ix2 r y)) (g (ix2 0 d)) (b (ix2 0 d)) d := by
  refine (pay2_apply _ g b (⟨r.val % 256, Nat.mod_lt _ (by decide)⟩ : Fin 256) d).trans ?_
  exact congrArg (fun f => Spec.layerNorm f (g (ix2 0 d)) (b (ix2 0 d)) d) (funext fun y => rows_apply x r y _ _)

/-- The gates of a block. -/
theorem gateOf_apply (x : Vec Ideal S1024x2048 .f32) (g b : Vec Ideal S1x2048 .f32) (w : Vec Ideal S2048x128 .bf16) (r : Fin 1024) (l : Fin 128) :
    gateOf x g b w (ix2 r l) = product (fun y => x (ix2 r y)) (fun y => g (ix2 0 y)) (fun y => b (ix2 0 y)) (fun y => w (ix2 y l)) := by
  refine (pay3_apply _ g b w (⟨r.val % 256, Nat.mod_lt _ (by decide)⟩ : Fin 256) l).trans ?_
  exact congrArg (fun f => product f (fun y => g (ix2 0 y)) (fun y => b (ix2 0 y)) (fun y => w (ix2 y l))) (funext fun y => rows_apply x r y _ _)

/-- The projection of a block's normalised rows. -/
theorem main_apply (x : Vec Ideal S1024x2048 .f32) (g b : Vec Ideal S1x2048 .f32) (w : Vec Ideal S2048x1792 .bf16) (r : Fin 1024) (j : Fin 1792) :
    k0_pay4 (hbOf x g b) w (ix2 r j) = product (fun y => x (ix2 r y)) (fun y => g (ix2 0 y)) (fun y => b (ix2 0 y)) (fun y => w (ix2 y j)) := by
  rw [pay4_apply]
  exact Finset.sum_congr rfl fun k _ => by rw [hbOf_apply]

end Cert.Projection
end
-- ==== Proof.ProjectionValue.lean ====
/-
  The input projection's kernel, whole: its two results are the reference's, entry by entry, as functions of the launched
  arguments.
-/
module

public import proofs.«01_k».proof.Proof.ProjectionBlocks
public import Idealize.ShloMosaic.Lib.Pipeline.Value

@[expose] public section

noncomputable section

namespace Cert.Projection

open Cert.Kernel2Ideal Cert.Kernel2Ideal.Gen Idealize.ShloMosaic Idealize.ShloMosaic.TcCoe Idealize.SL.Sem

section Blocks

variable {F : FTy → Type} [FloatOps F] (m : (ℓ : Loc nD τ sig) → Buf (Elt F) ℓ) (ρ : Dev nD → PrngReg) (c : Dev nD)

/-- What a point writes back of the projection. -/
theorem flushed5 (t : Fin cfg0.N) : (dats m 0 c).flushed 5 t = (cfg0.win 5).cut (grid0.coords t) (k0_pay4 (hbAt m c (rowStart t)) (iblk m c 3 t)) := by
  show (cfg0.win 5).cut (grid0.coords t) ((dats m 0 c).after 5 t) = _
  rw [after_5]

/-- What a point writes back of the gates. -/
theorem flushed6 (t : Fin cfg0.N) : (dats m 0 c).flushed 6 t = (cfg0.win 6).cut (grid0.coords t) (gateAt m c (rowStart t)) := by
  show (cfg0.win 6).cut (grid0.coords t) ((dats m 0 c).after 6 t) = _
  rw [after_6]

/-- The projection's blocks are one to a point, -/
theorem inj5 : ∀ t t' : Fin cfg0.N, win0_5.index t = win0_5.index t' → t = t' :=
  (by decide +kernel : ∀ t t' : Fin grid0.N, win0_5.index t = win0_5.index t' → t = t')

/-- the gates' one to a point that writes back. -/
theorem inj6 : ∀ t t' : Fin cfg0.N, t.val % 4 = 3 → t'.val % 4 = 3 → win0_6.index t = win0_6.index t' → t = t' :=
  (by decide +kernel : ∀ t t' : Fin grid0.N, t.val % 4 = 3 → t'.val % 4 = 3 → win0_6.index t = win0_6.index t' → t = t')

/-- The gates are written back at a row's last point. -/
theorem last6 : ∀ t : Fin cfg0.N, win0_6.flush t = true → t.val % 4 = 3 :=
  (by decide +kernel : ∀ t : Fin grid0.N, win0_6.flush t = true → t.val % 4 = 3)

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (inj5 t t' h)

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (inj6 t t' (last6 t hf) (last6 t' hf') h)

/-- A block of the final projection is what its point wrote back; -/
theorem blocks5 (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- the same for the gates. -/
theorem blocks6 (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- The run, with both result arrays after it named and the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 5 cfg0.N
      ∧ r.2.mem ((c : Thread nD τ).loc main_v10_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 5, (h.1.1 c).1 6, h.2.1 c⟩) (θ_run_and (run_quiescent m ρ) (frame_run m ρ))

end Blocks

variable (m : (ℓ : Loc nD τ sig) → Buf (Elt Ideal) ℓ) (c : Dev nD)

/-- The input rows. -/
theorem V_v7 (n : Fin 32768) (d : Fin 2048) : V m c main_v7 (ix2 n d) = m ((c : Thread nD τ).loc main_arg0) (ix3 (⟨n.val / 16384, by have := n.isLt; omega⟩ : Fin 2) (⟨n.val % 16384, by omega⟩ : Fin 16384) d) := by
  show StableHlo.after (List.flatten [hostOps0, hostOps0_1, hostOps0_2]) (fun b => m (c, b)) (Proc.devRef .tc main_v7) (ix2 n d) = _
  simp only [List.flatten_cons, List.flatten_nil, List.append_nil, List.cons_append, List.nil_append, hostOps0, hostOps0_1, hostOps0_2]
  after_results
  pointwise
  try rfl

/-- The gain. -/
theorem V_v8 (d : Fin 2048) : V m c main_v8 (ix2 0 d) = m ((c : Thread nD τ).loc main_arg1) (ix1 d) := by
  show StableHlo.after (List.flatten [hostOps0, hostOps0_1, hostOps0_2]) (fun b => m (c, b)) (Proc.devRef .tc main_v8) (ix2 0 d) = _
  simp only [List.flatten_cons, List.flatten_nil, List.append_nil, List.cons_append, List.nil_append, hostOps0, hostOps0_1, hostOps0_2]
  after_results
  pointwise
  try rfl

/-- The bias. -/
theorem V_v9 (d : Fin 2048) : V m c main_v9 (ix2 0 d) = m ((c : Thread nD τ).loc main_arg2) (ix1 d) := by
  show StableHlo.after (List.flatten [hostOps0, hostOps0_1, hostOps0_2]) (fun b => m (c, b)) (Proc.devRef .tc main_v9) (ix2 0 d) = _
  simp only [List.flatten_cons, List.flatten_nil, List.append_nil, List.cons_append, List.nil_append, hostOps0, hostOps0_1, hostOps0_2]
  after_results
  pointwise
  try rfl

/-- The projection's columns. -/
theorem V_v2 (k : Fin 2048) (j : Fin 7168) : V m c main_v2 (ix2 k j) = m ((c : Thread nD τ).loc main_arg3) (ix3 0 k (⟨j.val, by have := j.isLt; omega⟩ : Fin 7184)) := by
  show StableHlo.after (List.flatten [hostOps0, hostOps0_1, hostOps0_2]) (fun b => m (c, b)) (Proc.devRef .tc main_v2) (ix2 k j) = _
  simp only [List.flatten_cons, List.flatten_nil, List.append_nil, List.cons_append, List.nil_append, hostOps0, hostOps0_1, hostOps0_2]
  after_results
  pointwise
  try rfl

/-- The gates' columns, zero from lane 16 on. -/
theorem V_v6 (k : Fin 2048) (l : Fin 128) : V m c main_v6 (ix2 k l) = if h : l.val < 16 then m ((c : Thread nD τ).loc main_arg3) (ix3 0 k (⟨7168 + l.val, by omega⟩ : Fin 7184)) else (0 : EReal) := by
  show StableHlo.after (List.flatten [hostOps0, hostOps0_1, hostOps0_2]) (fun b => m (c, b)) (Proc.devRef .tc main_v6) (ix2 k l) = _
  simp only [List.flatten_cons, List.flatten_nil, List.append_nil, List.cons_append, List.nil_append, hostOps0, hostOps0_1, hostOps0_2]
  after_results
  pointwise
  show pad S2048x128 ![0, 0] ![0, 112] ![0, 0] (fun i : S2048x16.Idx => (m (c, Proc.devRef .tc main_arg3) (ix3 (0 : Fin 1) (i 0) (⟨7168 + (i 1).val, by have h : (i 1).val < 16 := (i 1).isLt; omega⟩ : Fin 7184)) : Elt Ideal .f32))
    (sitofp (F := Ideal) FTy.f32 (constantI S_ 32 0#32)) pads_S2048x16_S2048x128_000_01120 h_S_ (ix2 k l) = _
  pointwise
  split
  · rfl
  · show (((0#32 : BitVec 32).toInt : ℝ) : EReal) = 0
    simp

theorem index_0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5 : ∀ t : Fin cfg0.N, win0_5.index t (0 : Fin 2) = t.val / 4 ∧ win0_5.index t (1 : Fin 2) = t.val % 4 ∧ win0_5.flush t = true :=
  (by decide +kernel : ∀ t : Fin grid0.N, win0_5.index t (0 : Fin 2) = t.val / 4 ∧ win0_5.index t (1 : Fin 2) = t.val % 4 ∧ win0_5.flush t = true)
theorem index_6 : ∀ t : Fin cfg0.N, t.val % 4 = 3 → win0_6.index t (0 : Fin 2) = t.val / 4 ∧ win0_6.index t (1 : Fin 2) = 0 ∧ win0_6.flush t = true :=
  (by decide +kernel : ∀ t : Fin grid0.N, t.val % 4 = 3 → win0_6.index t (0 : Fin 2) = t.val / 4 ∧ win0_6.index t (1 : Fin 2) = 0 ∧ win0_6.flush t = true)

/-- A point's input rows. -/
theorem blk_0 (t : Fin cfg0.N) (r : Fin 1024) (y : Fin 2048) (n : Fin 32768) (hn : n.val = t.val / 4 * 1024 + r.val) : (iblk m c 0 t : Vec Ideal S1024x2048 .f32) (ix2  r y) = V m c main_v7 (ix2 n y) := by
  obtain ⟨h0, h1⟩ := index_0 t
  unfold iblk
  show V m c main_v7 _ = V m c main_v7 _
  congr 1
  funext a
  apply Fin.ext
  match a with
  | ⟨0, _⟩ => show win0_0.index t (0 : Fin 2) * 1024 + 1 * r.val = n.val; (try dsimp only); omega
  | ⟨1, _⟩ => show win0_0.index t (1 : Fin 2) * 2048 + 1 * y.val = y.val; (try dsimp only); omega

/-- A point's gain. -/
theorem blk_1 (t : Fin cfg0.N) (y : Fin 2048) : (iblk m c 1 t : Vec Ideal S1x2048 .f32) (ix2 0 y) = V m c main_v8 (ix2 0 y) := by
  obtain ⟨h0, h1⟩ := index_1 t
  unfold iblk
  show V m c main_v8 _ = V m c main_v8 _
  congr 1
  funext a
  apply Fin.ext
  match a with
  | ⟨0, _⟩ => show win0_1.index t (0 : Fin 2) * 1 + 1 * 0 = 0; (try dsimp only); omega
  | ⟨1, _⟩ => show win0_1.index t (1 : Fin 2) * 2048 + 1 * y.val = y.val; (try dsimp only); omega

/-- A point's bias. -/
theorem blk_2 (t : Fin cfg0.N) (y : Fin 2048) : (iblk m c 2 t : Vec Ideal S1x2048 .f32) (ix2 0 y) = V m c main_v9 (ix2 0 y) := by
  obtain ⟨h0, h1⟩ := index_2 t
  unfold iblk
  show V m c main_v9 _ = V m c main_v9 _
  congr 1
  funext a
  apply Fin.ext
  match a with
  | ⟨0, _⟩ => show win0_2.index t (0 : Fin 2) * 1 + 1 * 0 = 0; (try dsimp only); omega
  | ⟨1, _⟩ => show win0_2.index t (1 : Fin 2) * 2048 + 1 * y.val = y.val; (try dsimp only); omega

/-- A point's columns. -/
theorem blk_3 (t : Fin cfg0.N) (k : Fin 2048) (j : Fin 1792) (q : Fin 7168) (hq : q.val = t.val % 4 * 1792 + j.val) : (iblk m c 3 t : Vec Ideal S2048x1792 .bf16) (ix2 k j) = V m c main_v2 (ix2 k q) := by
  obtain ⟨h0, h1⟩ := index_3 t
  unfold iblk
  show V m c main_v2 _ = V m c main_v2 _
  congr 1
  funext a
  apply Fin.ext
  match a with
  | ⟨0, _⟩ => show win0_3.index t (0 : Fin 2) * 2048 + 1 * k.val = k.val; (try dsimp only); omega
  | ⟨1, _⟩ => show win0_3.index t (1 : Fin 2) * 1792 + 1 * j.val = q.val; (try dsimp only); omega

/-- A point's gate columns. -/
theorem blk_4 (t : Fin cfg0.N) (k : Fin 2048) (l : Fin 128) : (iblk m c 4 t : Vec Ideal S2048x128 .bf16) (ix2 k l) = V m c main_v6 (ix2 k l) := by
  obtain ⟨h0, h1⟩ := index_4 t
  unfold iblk
  show V m c main_v6 _ = V m c main_v6 _
  congr 1
  funext a
  apply Fin.ext
  match a with
  | ⟨0, _⟩ => show win0_4.index t (0 : Fin 2) * 2048 + 1 * k.val = k.val; (try dsimp only); omega
  | ⟨1, _⟩ => show win0_4.index t (1 : Fin 2) * 128 + 1 * l.val = l.val; (try dsimp only); omega

/-- THE PROJECTION IS THE REFERENCE'S, as a function of the launched arguments. -/
theorem value_eq5 : (dats m 0 c).arrAt 5 cfg0.N = Cert.Reference2Ideal.Read.val_main_v27 (F := Ideal)
    (m ((c : Thread nD τ).loc main_arg0)) (m ((c : Thread nD τ).loc main_arg1)) (m ((c : Thread nD τ).loc main_arg2)) (m ((c : Thread nD τ).loc main_arg3)) := by
  funext q
  obtain ⟨n, d, rfl⟩ : ∃ (n : Fin 32768) (d : Fin 7168), q = ix2 n d := ⟨q 0, q 1, ValueIdx.eq_ix2 q⟩
  have hn := n.isLt
  have hd := d.isLt
  have ht : 4 * (n.val / 1024) + d.val / 1792 < cfg0.N := by rw [show cfg0.N = 128 from N_0]; omega
  obtain ⟨h0, h1, hf⟩ := index_5 ⟨4 * (n.val / 1024) + d.val / 1792, ht⟩
  have hb := congrFun (blocks5 m c ⟨4 * (n.val / 1024) + d.val / 1792, ht⟩ hf) (ix2 (⟨n.val % 1024, Nat.mod_lt _ (by decide)⟩ : Fin 1024) (⟨d.val % 1792, by omega⟩ : Fin 1792))
  rw [flushed5] at hb
  have e : ((cfg0.win 5).blk ⟨4 * (n.val / 1024) + d.val / 1792, ht⟩).view.emb (ix2 (⟨n.val % 1024, Nat.mod_lt _ (by decide)⟩ : Fin 1024) (⟨d.val % 1792, by omega⟩ : Fin 1792)) = ix2 n d := by
    funext a
    apply Fin.ext
    match a with
    | ⟨0, _⟩ => show win0_5.index ⟨4 * (n.val / 1024) + d.val / 1792, ht⟩ (0 : Fin 2) * 1024 + 1 * (n.val % 1024) = n.val; rw [h0]; dsimp only; omega
    | ⟨1, _⟩ => show win0_5.index ⟨4 * (n.val / 1024) + d.val / 1792, ht⟩ (1 : Fin 2) * 1792 + 1 * (d.val % 1792) = d.val; rw [h1]; (try dsimp only); omega
  rw [← e]
  refine Eq.trans hb ?_
  rw [e, ref_main]
  refine (main_apply _ _ _ _ (⟨n.val % 1024, Nat.mod_lt _ (by decide)⟩ : Fin 1024) (⟨d.val % 1792, by omega⟩ : Fin 1792)).trans ?_
  have f0 : ∀ y, (iblk m c 0 (rowStart ⟨4 * (n.val / 1024) + d.val / 1792, ht⟩) : Vec Ideal S1024x2048 .f32) (ix2 (⟨n.val % 1024, Nat.mod_lt _ (by decide)⟩ : Fin 1024) y) = _ := fun y =>
    (blk_0 m c _ _ y n (by simp only [rowStart]; omega)).trans (V_v7 m c n y)
  have f1 : ∀ y, (iblk m c 1 (rowStart ⟨4 * (n.val / 1024) + d.val / 1792, ht⟩) : Vec Ideal S1x2048 .f32) (ix2 0 y) = _ := fun y => (blk_1 m c _ y).trans (V_v8 m c y)
  have f2 : ∀ y, (iblk m c 2 (rowStart ⟨4 * (n.val / 1024) + d.val / 1792, ht⟩) : Vec Ideal S1x2048 .f32) (ix2 0 y) = _ := fun y => (blk_2 m c _ y).trans (V_v9 m c y)
  have f3 : ∀ y, (iblk m c 3 ⟨4 * (n.val / 1024) + d.val / 1792, ht⟩ : Vec Ideal S2048x1792 .bf16) (ix2 y (⟨d.val % 1792, by omega⟩ : Fin 1792)) = _ := fun y =>
    (blk_3 m c _ y _ d (by dsimp only; omega)).trans (V_v2 m c y d)
  simp only [f0, f1, f2, f3]

/-- THE GATES ARE THE REFERENCE'S, as a function of the launched arguments. -/
theorem value_eq6 : (dats m 0 c).arrAt 6 cfg0.N = Cert.Reference2Ideal.Read.val_main_v28 (F := Ideal)
    (m ((c : Thread nD τ).loc main_arg0)) (m ((c : Thread nD τ).loc main_arg1)) (m ((c : Thread nD τ).loc main_arg2)) (m ((c : Thread nD τ).loc main_arg3)) := by
  funext q
  obtain ⟨n, d, rfl⟩ : ∃ (n : Fin 32768) (d : Fin 128), q = ix2 n d := ⟨q 0, q 1, ValueIdx.eq_ix2 q⟩
  have hn := n.isLt
  have hd := d.isLt
  have ht : 4 * (n.val / 1024) + 3 < cfg0.N := by rw [show cfg0.N = 128 from N_0]; omega
  obtain ⟨h0, h1, hf⟩ := index_6 ⟨4 * (n.val / 1024) + 3, ht⟩ (by dsimp only; omega)
  have hb := congrFun (blocks6 m c ⟨4 * (n.val / 1024) + 3, ht⟩ hf) (ix2 (⟨n.val % 1024, Nat.mod_lt _ (by decide)⟩ : Fin 1024) (⟨d.val, by omega⟩ : Fin 128))
  rw [flushed6] at hb
  have e : ((cfg0.win 6).blk ⟨4 * (n.val / 1024) + 3, ht⟩).view.emb (ix2 (⟨n.val % 1024, Nat.mod_lt _ (by decide)⟩ : Fin 1024) (⟨d.val, by omega⟩ : Fin 128)) = ix2 n d := by
    funext a
    apply Fin.ext
    match a with
    | ⟨0, _⟩ => show win0_6.index ⟨4 * (n.val / 1024) + 3, ht⟩ (0 : Fin 2) * 1024 + 1 * (n.val % 1024) = n.val; rw [h0]; dsimp only; omega
    | ⟨1, _⟩ => show win0_6.index ⟨4 * (n.val / 1024) + 3, ht⟩ (1 : Fin 2) * 128 + 1 * (d.val) = d.val; rw [h1]; (try dsimp only); omega
  rw [← e]
  refine Eq.trans hb ?_
  rw [e, ref_gates]
  refine (gateOf_apply _ _ _ _ (⟨n.val % 1024, Nat.mod_lt _ (by decide)⟩ : Fin 1024) d).trans ?_
  have f0 : ∀ y, (iblk m c 0 (rowStart ⟨4 * (n.val / 1024) + 3, ht⟩) : Vec Ideal S1024x2048 .f32) (ix2 (⟨n.val % 1024, Nat.mod_lt _ (by decide)⟩ : Fin 1024) y) = _ := fun y =>
    (blk_0 m c _ _ y n (by simp only [rowStart]; omega)).trans (V_v7 m c n y)
  have f1 : ∀ y, (iblk m c 1 (rowStart ⟨4 * (n.val / 1024) + 3, ht⟩) : Vec Ideal S1x2048 .f32) (ix2 0 y) = _ := fun y => (blk_1 m c _ y).trans (V_v8 m c y)
  have f2 : ∀ y, (iblk m c 2 (rowStart ⟨4 * (n.val / 1024) + 3, ht⟩) : Vec Ideal S1x2048 .f32) (ix2 0 y) = _ := fun y => (blk_2 m c _ y).trans (V_v9 m c y)
  have f4 : ∀ y, (iblk m c 4 (rowStart ⟨4 * (n.val / 1024) + 3, ht⟩) : Vec Ideal S2048x128 .bf16) (ix2 y d) = _ := fun y => (blk_4 m c _ y d).trans (V_v6 m c y d)
  simp only [f0, f1, f2, f4]
  by_cases h : d.val < 16
  · simp only [dif_pos h]
  · simp only [dif_neg h]
    unfold product
    simp only [mul_zero, Finset.sum_const_zero]

end Cert.Projection

end
-- ==== Proof.ProjectionSame.lean ====
/-
  The printed input projection kernel and its idealization are one text, so the run of the one is the run of the other.
-/
module

public import proofs.«01_k».proof.Proof.Gen.Kernel2
public import proofs.«01_k».proof.Proof.ProjectionFrame

@[expose] public section

noncomputable section

namespace Cert.Projection

open Idealize.ShloMosaic Idealize.ShloMosaic.TcCoe Idealize.SL.Sem

variable {F : FTy → Type} [FloatOps F]

/-- The two programs call the same bodies. -/
theorem bodies_eq : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))

/-- So their tables are the same. -/
theorem defs_eq : Cert.Kernel2.defs (F := F) = Cert.Kernel2Ideal.defs (F := F) :=
  congrArg (Pipeline.defs Cert.Kernel2Ideal.pcfgs) bodies_eq

/-- The printed kernel's frame: the arguments end as launched and every counter at zero. -/
theorem frame_printed (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0) := by
  rw [defs_eq]
  exact frame_run m ρ

end Cert.Projection

end
-- ==== Proof.MixRef.lean ====
/-
  The mix call's reference, entry by entry: the gated causal convolution along a sequence, the output projection, the
  residual over the input norm, and the norm of their sum, as functions of the arguments' entries.
-/
module

public import proofs.«01_k».proof.Proof.Gen.Reference3Ideal.Read
public import proofs.«01_k».proof.Proof.LayerNorm
public import Idealize.ShloMosaic.Lib.Pointwise
public import Idealize.ShloMosaic.Lib.ValueIdx

@[expose] public section

noncomputable section

namespace Cert.Mix

open Cert.Reference3Ideal Cert.Reference3Ideal.Read Idealize.ShloMosaic

/-- The convolution's input at token `n`, channel `j`: the product of two columns of the projection. -/
def zz (p : Fin 32768 → Fin 7168 → EReal) (n : ℕ) (j : Fin 1024) : EReal :=
  if h : n < 32768 then p ⟨n, h⟩ ⟨1024 + j.val, by have := j.isLt; omega⟩ * p ⟨n, h⟩ ⟨2048 + j.val, by have := j.isLt; omega⟩ else 0

/-- The same `k` tokens earlier in the token's own sequence of 16384, and zero before the sequence begins. -/
def shifted (p : Fin 32768 → Fin 7168 → EReal) (n k : ℕ) (j : Fin 1024) : EReal :=
  if n % 16384 < k then 0 else zz p (n - k) j

/-- The gated convolution at token `r`, channel `j`. -/
def gated (p : Fin 32768 → Fin 7168 → EReal) (w : Fin 3 → Fin 1024 → EReal) (b : Fin 1024 → EReal) (r : Fin 32768) (j : Fin 1024) : EReal :=
  p r ⟨j.val, by have := j.isLt; omega⟩ * (b j + w 0 j * shifted p r.val 2 j + w 1 j * shifted p r.val 1 j + w 2 j * zz p r.val j)

/-- The output projection at token `r`, feature `d`: the convolution's channels, then the recurrence's. -/
def mixed (p : Fin 32768 → Fin 7168 → EReal) (w : Fin 3 → Fin 1024 → EReal) (b : Fin 1024 → EReal) (ym : Fin 32768 → Fin 1024 → EReal)
    (wo : Fin 2048 → Fin 2048 → EReal) (r : Fin 32768) (d : Fin 2048) : EReal :=
  (∑ j : Fin 1024, gated p w b r j * wo ⟨j.val, by have := j.isLt; omega⟩ d)
    + ∑ j : Fin 1024, ym r j * wo ⟨1024 + j.val, by have := j.isLt; omega⟩ d

/-- One entry of the result, for a token whose input row is `x`: the norm of the residual plus the projection. -/
def result (x : Fin 2048 → EReal) (g0 b0 : Fin 2048 → EReal) (mx : Fin 2048 → EReal) (g b : Fin 2048 → EReal) (d : Fin 2048) : EReal :=
  Spec.layerNorm (fun y => Ideal.ofBits FTy.f32 0x3F9837F0#32 * Spec.layerNorm x (g0 y) (b0 y) y + mx y) (g d) (b d) d

/-- Token number `16384 b + s`. -/
def token (b : Fin 2) (s : Fin 16384) : Fin 32768 := ⟨b.val * 16384 + s.val, by have := b.isLt; have := s.isLt; omega⟩

variable (x0 : (⟨S2x16384x2048, .f32⟩ : BufTy).Contents (Elt Ideal)) (x1 : (⟨S32768x7168, .bf16⟩ : BufTy).Contents (Elt Ideal))
  (x2 : (⟨S32768x1024, .bf16⟩ : BufTy).Contents (Elt Ideal)) (x3 x4 : (⟨S2048, .f32⟩ : BufTy).Contents (Elt Ideal))
  (x5 : (⟨S1x3x1024, .f32⟩ : BufTy).Contents (Elt Ideal)) (x6 : (⟨S1x1024, .f32⟩ : BufTy).Contents (Elt Ideal))
  (x7 : (⟨S1x2048x2048, .f32⟩ : BufTy).Contents (Elt Ideal)) (x8 x9 : (⟨S1x2048, .f32⟩ : BufTy).Contents (Elt Ideal))

/-- The input norm. -/
theorem norm_apply (b : Fin 2) (s : Fin 16384) (d : Fin 2048) :
    val_main_v21 (F := Ideal) x0 x3 x4 (ix3 b s d)
      = Spec.layerNorm (fun y => x0 (ix3 b s y)) (x3 (ix1 d)) (x4 (ix1 d)) d := by
  unfold Spec.layerNorm Spec.mean
  pointwise [val_main_cst, val_main_v0, val_main_v1, val_main_cst_0, val_main_v2, val_main_v3, val_main_v4, val_main_v5,
    val_main_v6, val_main_cst_1, val_main_v7, val_main_v8, val_main_cst_2, val_main_v9, val_main_v10, val_main_cst_3,
    val_main_v11, val_main_v12, val_main_v13, val_main_v14, val_main_v15, val_main_v16, val_main_v17, val_main_v18,
    val_main_v19, val_main_v20, val_main_v21]

/-- The convolution's input, padded by two zeros before each sequence. -/
theorem padded_apply (b : Fin 2) (s : Fin 16386) (j : Fin 1024) :
    val_main_v30 (F := Ideal) x1 (ix3 b s j)
      = if s.val < 2 then 0 else zz (fun n k => x1 (ix2 n k)) (b.val * 16384 + (s.val - 2)) j := by
  pointwise [val_main_v22, val_main_v23, val_main_v24, val_main_v25, val_main_v26, val_main_v27, val_main_v28, val_main_v29,
    val_main_c, val_main_call0_v0, val_main_v30]
  have hb := b.isLt
  have hs := s.isLt
  by_cases h : s.val < 2
  · rw [dif_neg (by omega), if_pos h]
    show (((0#32 : BitVec 32).toInt : ℝ) : EReal) = 0
    simp
  · rw [dif_pos ⟨by omega, by omega⟩, if_neg h, zz, dif_pos (by omega)]

/-- The gated convolution. -/
theorem gated_apply (b : Fin 2) (s : Fin 16384) (j : Fin 1024) :
    val_main_v54 (F := Ideal) x1 x5 x6 (ix3 b s j)
      = gated (fun n k => x1 (ix2 n k)) (fun k c => x5 (ix3 0 k c)) (fun c => x6 (ix2 0 c)) (token b s) j := by
  pointwise [val_main_v22, val_main_v23, val_main_v24, val_main_v25, val_main_v26, val_main_v27, val_main_v28, val_main_v29, val_main_c, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, padded_apply]
  have hb := b.isLt
  have hs := s.isLt
  have e2 : shifted (fun n k => x1 (ix2 n k)) (token b s).val 2 j
      = if s.val < 2 then 0 else zz (fun n k => x1 (ix2 n k)) (b.val * 16384 + (s.val - 2)) j := by
    show (if (b.val * 16384 + s.val) % 16384 < 2 then 0 else zz (fun n k => x1 (ix2 n k)) (b.val * 16384 + s.val - 2) j) = _
    by_cases h : s.val < 2
    · rw [if_pos (by omega), if_pos h]
    · rw [if_neg (by omega), if_neg h, show b.val * 16384 + s.val - 2 = b.val * 16384 + (s.val - 2) by omega]
  have e1 : shifted (fun n k => x1 (ix2 n k)) (token b s).val 1 j
      = if 1 + s.val < 2 then 0 else zz (fun n k => x1 (ix2 n k)) (b.val * 16384 + (1 + s.val - 2)) j := by
    show (if (b.val * 16384 + s.val) % 16384 < 1 then 0 else zz (fun n k => x1 (ix2 n k)) (b.val * 16384 + s.val - 1) j) = _
    by_cases h : 1 + s.val < 2
    · rw [if_pos (by omega), if_pos h]
    · rw [if_neg (by omega), if_neg h, show b.val * 16384 + s.val - 1 = b.val * 16384 + (1 + s.val - 2) by omega]
  unfold gated
  rw [e1, e2]
  rfl

/-- The output projection. -/
theorem mixed_apply (b : Fin 2) (s : Fin 16384) (d : Fin 2048) :
    val_main_v59 (F := Ideal) x1 x2 x5 x6 x7 (ix3 b s d)
      = mixed (fun n k => x1 (ix2 n k)) (fun k c => x5 (ix3 0 k c)) (fun c => x6 (ix2 0 c)) (fun n c => x2 (ix2 n c))
          (fun k y => x7 (ix3 0 k y)) (token b s) d := by
  pointwise [val_main_v55, val_main_v56, val_main_v57, val_main_v58, val_main_v59, dot_S2x16384x2048_S2048x2048_S2x16384x2048_2_0_01_1_n_n, gated_apply]
  rfl

/-- THE REFERENCE'S RESULT at token `r`, feature `d`. -/
theorem ref_apply (r : Fin 32768) (d : Fin 2048) :
    val_main_v87 (F := Ideal) x0 x1 x2 x3 x4 x5 x6 x7 x8 x9 (ix2 r d)
      = result (fun y => x0 (ix3 ⟨r.val / 16384, by have := r.isLt; omega⟩ ⟨r.val % 16384, by omega⟩ y)) (fun y => x3 (ix1 y)) (fun y => x4 (ix1 y))
          (mixed (fun n k => x1 (ix2 n k)) (fun k c => x5 (ix3 0 k c)) (fun c => x6 (ix2 0 c)) (fun n c => x2 (ix2 n c))
            (fun k y => x7 (ix3 0 k y)) r) (fun y => x8 (ix2 0 y)) (fun y => x9 (ix2 0 y)) d := by
  have ht : ∀ h1 h2, token ⟨r.val / 16384, h1⟩ ⟨r.val % 16384, h2⟩ = r := fun h1 h2 => Fin.ext (by
    show r.val / 16384 * 16384 + r.val % 16384 = r.val; omega)
  unfold result
  rw [Spec.layerNorm, Spec.mean]
  pointwise [val_main_cst_4, val_main_v60, val_main_v61, val_main_v62, val_main_v63, val_main_v64, val_main_cst_5, val_main_v65,
    val_main_v66, val_main_cst_6, val_main_v67, val_main_v68, val_main_v69, val_main_v70, val_main_v71, val_main_cst_7,
    val_main_v72, val_main_v73, val_main_cst_8, val_main_v74, val_main_v75, val_main_cst_9, val_main_v76, val_main_v77,
    val_main_v78, val_main_v79, val_main_v80, val_main_v81, val_main_v82, val_main_v83, val_main_v84, val_main_v85,
    val_main_v86, val_main_v87, norm_apply, mixed_apply, ht]

end Cert.Mix

end
-- ==== Proof.MixBlocks.lean ====
/-
  The mix call's kernel, one block: what the two stores of a grid point leave in the two results' blocks, entry by
  entry. A block is 512 rows taken in two chunks of 256; the convolution reaches two rows back, into the chunk before,
  or into the block before (the last two rows of a 16 row block), or, at the start of a sequence, into zeros.
-/
module

public import proofs.«01_k».proof.Proof.Gen.Kernel3Ideal.Value
public import proofs.«01_k».proof.Proof.MixRef
public import Idealize.ShloMosaic.Lib.Pointwise
public import Idealize.ShloMosaic.Lib.ValueIdx
public import Idealize.ShloMosaic.Lib.Tactic

@[expose] public section

noncomputable section

namespace Cert.Mix

open Cert.Kernel3Ideal Cert.Kernel3Ideal.Gen Cert.Kernel3Ideal.Value Idealize.ShloMosaic Idealize.ShloMosaic.TcCoe Idealize.SL.Sem

variable (t : grid0.Coords) (x0 x1 x2 : Vec Ideal S512x1024 .bf16) (x3 x4 : Vec Ideal S16x1024 .bf16) (x5 : Vec Ideal S512x1024 .bf16) (x6 : Vec Ideal S512x2048 .f32) (x7 x8 : Vec Ideal S1x2048 .f32) (x9 : Vec Ideal S8x1024 .f32) (x10 : Vec Ideal S1x1024 .f32) (x11 : Vec Ideal S2048x2048 .bf16) (x12 x13 : Vec Ideal S1x2048 .f32)

/-- The two rows before a block: zero at the start of a sequence, else the last two rows of the block before. -/
theorem tail_apply (u v : Vec Ideal S16x1024 .bf16) (r : Fin 2) (j : Fin 1024) :
    k0_pay1 t u v (ix2 r j) = if (t 0).val % 32 = 0 then (0 : EReal) else
      u (ix2 (⟨14 + r.val, by omega⟩ : Fin 16) j) * v (ix2 (⟨14 + r.val, by omega⟩ : Fin 16) j) := by
  pointwise [k0_pay1]
  generalize (t 0) = n
  fin_cases n <;> rfl

/-- The first chunk's store, over the chunk's projection. -/
theorem out_low (i : Fin 256) (d : Fin 2048) :
  k0_pay11 (k0_pay29 t x0 x1 x2 x3 x4 x5 x6 x7 x8 x9 x10 x11 x12 x13) (k0_pay30 t x0 x1 x2 x3 x4 x5 x6 x7 x8 x9 x10 x11 x12 x13) (k0_pay31 t x0 x1 x2 x3 x4 x5 x6 x7 x8 x9 x10 x11 x12 x13) (k0_pay32 t x0 x1 x2 x3 x4 x5 x6 x7 x8 x9 x10 x11 x12 x13) (Scalar.ofBits .f32 0x3727C5AC#32)  (ix2 i d)
    = result (fun y => x6 (ix2 (⟨i.val, by omega⟩ : Fin 512) y)) (fun y => x7 (ix2 0 y)) (fun y => x8 (ix2 0 y)) (fun y => k0_pay27 t x0 x1 x2 x3 x4 x5 x6 x7 x8 x9 x10 x11 x12 x13 (ix2 i y)) (fun y => x12 (ix2 0 y)) (fun y => x13 (ix2 0 y)) d := by
  unfold result Spec.layerNorm Spec.mean
  pointwise [k0_pay28, k0_pay29, k0_pay30, k0_pay31, k0_pay32, k0_pay6, k0_pay7, k0_pay8, k0_pay9, k0_pay10, k0_pay11, r0_8, r0_9]

/-- The second chunk's store, over the chunk's projection. -/
theorem out_high (i : Fin 256) (d : Fin 2048) :
  k0_pay23 (k0_pay33 t x0 x1 x2 x3 x4 x5 x6 x7 x8 x9 x10 x11 x12 x13) (k0_pay34 t x0 x1 x2 x3 x4 x5 x6 x7 x8 x9 x10 x11 x12 x13) (k0_pay35 t x0 x1 x2 x3 x4 x5 x6 x7 x8 x9 x10 x11 x12 x13) (k0_pay36 t x0 x1 x2 x3 x4 x5 x6 x7 x8 x9 x10 x11 x12 x13) (k0_pay37 t x0 x1 x2 x3 x4 x5 x6 x7 x8 x9 x10 x11 x12 x13) (View.ld x12 r0_9) (View.ld x13 r0_9)  (ix2 i d)
    = result (fun y => x6 (ix2 (⟨256 + i.val, by omega⟩ : Fin 512) y)) (fun y => x7 (ix2 0 y)) (fun y => x8 (ix2 0 y)) (fun y => k0_pay33 t x0 x1 x2 x3 x4 x5 x6 x7 x8 x9 x10 x11 x12 x13 (ix2 i y)) (fun y => x12 (ix2 0 y)) (fun y => x13 (ix2 0 y)) d := by
  unfold result Spec.layerNorm Spec.mean
  pointwise [k0_pay34, k0_pay35, k0_pay36, k0_pay37, k0_pay19, k0_pay20, k0_pay21, k0_pay22, k0_pay23, r0_11, r0_9]

/-- The convolution's input at row `i` of a block. -/
def zrow (i : ℕ) (j : Fin 1024) : EReal := if h : i < 512 then x1 (ix2 (⟨i, h⟩ : Fin 512) j) * x2 (ix2 (⟨i, h⟩ : Fin 512) j) else 0

/-- The convolution's input `k` rows before row `i` of a block. -/
def zshift (i k : ℕ) (j : Fin 1024) : EReal := if k ≤ i then zrow x1 x2 (i - k) j else
  if (t 0).val % 32 = 0 then 0 else if h : 16 + i - k < 16 then x3 (ix2 (⟨16 + i - k, h⟩ : Fin 16) j) * x4 (ix2 (⟨16 + i - k, h⟩ : Fin 16) j) else 0

/-- The output projection at row `i` of a block, feature `d`. -/
def mixrow (i : Fin 512) (d : Fin 2048) : EReal :=
  (∑ j : Fin 1024, x0 (ix2 i j) * (x10 (ix2 0 j) + x9 (ix2 0 j) * zshift t x1 x2 x3 x4 i.val 2 j + x9 (ix2 1 j) * zshift t x1 x2 x3 x4 i.val 1 j
      + x9 (ix2 2 j) * zrow x1 x2 i.val j) * x11 (ix2 (⟨j.val, by omega⟩ : Fin 2048) d))
    + ∑ j : Fin 1024, x5 (ix2 i j) * x11 (ix2 (⟨1024 + j.val, by omega⟩ : Fin 2048) d)

/-- A choice by the number of a row. -/
theorem select_row {α : Type} (i : Fin 256) (k : ℕ) (hk : k < 256) (a b : α) :
    Scalar.select (IntOp.cmpi CmpIPredicate.eq (BitVec.ofNat 32 i.val) (BitVec.ofNat 32 k)) a b = if i.val = k then a else b := by
  have hi := i.isLt
  have e : (BitVec.ofNat 32 i.val = BitVec.ofNat 32 k) ↔ i.val = k := by
    constructor
    · intro h
      have := congrArg BitVec.toNat h
      simp only [BitVec.toNat_ofNat] at this
      omega
    · intro h; rw [h]
  by_cases h : i.val = k
  · simp [Scalar.select, IntOp.cmpi, h]
  · have h' := mt e.mp h
    simp [Scalar.select, IntOp.cmpi, h, beq_eq_false_iff_ne.mpr h']

/-- Inside the block the reach back is a row of the block. -/
theorem zshift_of_le (i k : ℕ) (h : k ≤ i) (j : Fin 1024) : zshift t x1 x2 x3 x4 i k j = zrow x1 x2 (i - k) j := if_pos h

/-- Two rows of the convolution's input are one when their numbers are. -/
theorem zrow_eq (i : Fin 512) (k : ℕ) (h : i.val = k) (j : Fin 1024) : x1 (ix2 i j) * x2 (ix2 i j) = zrow x1 x2 k j := by
  subst h
  rw [zrow, dif_pos i.isLt]

/-- The tail row `r` is the convolution's input `2 - r` rows before the block. -/
theorem tail_eq (r : Fin 2) (i k : ℕ) (h : i + 2 = k + r.val) (j : Fin 1024) :
    k0_pay1 t (View.ld x3 r0_0) (View.ld x4 r0_0) (ix2 r j) = zshift t x1 x2 x3 x4 i k j := by
  have hr := r.isLt
  rw [tail_apply]
  refine Eq.trans ?_ (if_neg (by omega : ¬ k ≤ i)).symm
  refine congrArg _ ?_
  rw [dif_pos (by omega)]
  pointwise [r0_0]
  have e : (⟨14 + r.val, by omega⟩ : Fin 16) = ⟨16 + i - k, by omega⟩ := Fin.ext (by dsimp only; omega)
  exact congrArg (fun q : Fin 16 => x3 (ix2 q j) * x4 (ix2 q j)) e

/-- The first chunk's projection. -/
theorem mix_low (i : Fin 256) (d : Fin 2048) :
    k0_pay27 t x0 x1 x2 x3 x4 x5 x6 x7 x8 x9 x10 x11 x12 x13 (ix2 i d) = mixrow t x0 x1 x2 x3 x4 x5 x9 x10 x11 ⟨i.val, by omega⟩ d := by
  have hi := i.isLt
  have t1 := fun j => tail_apply t (View.ld x3 r0_0) (View.ld x4 r0_0) (1 : Fin 2) j
  pointwise [k0_pay27, k0_pay25, k0_pay26, k0_pay3, k0_pay4, k0_pay2, k0_pay5, r0_1, r0_2, r0_3, r0_4, r0_5, r0_6, r0_7,
    dot_S256x1024_S1024x2048_S256x2048_1_0_0_1_n_n]
  unfold mixrow
  refine congrArg₂ (· + ·) (Finset.sum_congr rfl fun j _ => ?_) rfl
  rw [select_row i 1 (by decide), select_row i 0 (by decide), select_row i 0 (by decide)]
  refine congrArg (· * _) (congrArg (_ * ·) (congrArg₂ (· + ·) (congrArg₂ (· + ·) (congrArg (_ + ·) (congrArg (_ * ·) ?_))
    (congrArg (_ * ·) ?_)) (congrArg (_ * ·) ?_)))
  · by_cases h1 : i.val = 1
    · rw [if_pos h1]; exact tail_eq t x1 x2 x3 x4 1 _ _ (by dsimp only; rw [h1]; rfl) j
    · rw [if_neg h1]
      by_cases h0 : i.val = 0
      · rw [if_pos h0]; exact tail_eq t x1 x2 x3 x4 0 _ _ (by dsimp only; rw [h0]; rfl) j
      · rw [if_neg h0, zshift_of_le t x1 x2 x3 x4 _ _ (by dsimp only; omega)]
        exact zrow_eq x1 x2 _ _ (by dsimp only; omega) j
  · by_cases h0 : i.val = 0
    · rw [if_pos h0]; exact tail_eq t x1 x2 x3 x4 1 _ _ (by dsimp only; rw [h0]; rfl) j
    · rw [if_neg h0, zshift_of_le t x1 x2 x3 x4 _ _ (by dsimp only; omega)]
      exact zrow_eq x1 x2 _ _ (by dsimp only; omega) j
  · exact zrow_eq x1 x2 _ _ rfl j

/-- The second chunk's projection. -/
theorem mix_high (i : Fin 256) (d : Fin 2048) :
    k0_pay33 t x0 x1 x2 x3 x4 x5 x6 x7 x8 x9 x10 x11 x12 x13 (ix2 i d) = mixrow t x0 x1 x2 x3 x4 x5 x9 x10 x11 ⟨256 + i.val, by omega⟩ d := by
  have hi := i.isLt
  pointwise [k0_pay25, k0_pay26, k0_pay33, k0_pay13, k0_pay14, k0_pay15, k0_pay16, k0_pay17, k0_pay18, k0_pay2, r0_1, r0_2,
    r0_3, r0_4, r0_5, r0_6, r0_7, r0_10, dot_S256x1024_S1024x2048_S256x2048_1_0_0_1_n_n]
  unfold mixrow
  refine congrArg₂ (· + ·) (Finset.sum_congr rfl fun j _ => ?_) rfl
  rw [select_row i 1 (by decide), select_row i 0 (by decide), select_row i 0 (by decide)]
  refine congrArg (· * _) (congrArg (_ * ·) (congrArg₂ (· + ·) (congrArg₂ (· + ·) (congrArg (_ + ·) (congrArg (_ * ·) ?_))
    (congrArg (_ * ·) ?_)) (congrArg (_ * ·) ?_)))
  · rw [zshift_of_le t x1 x2 x3 x4 _ _ (by dsimp only; omega)]
    by_cases h1 : i.val = 1
    · rw [if_pos h1]; exact zrow_eq x1 x2 _ _ (by dsimp only; rw [h1]; rfl) j
    · rw [if_neg h1]
      by_cases h0 : i.val = 0
      · rw [if_pos h0]; exact zrow_eq x1 x2 _ _ (by dsimp only; rw [h0]; rfl) j
      · rw [if_neg h0]
        exact zrow_eq x1 x2 _ _ (by dsimp only; omega) j
  · rw [zshift_of_le t x1 x2 x3 x4 _ _ (by dsimp only; omega)]
    by_cases h0 : i.val = 0
    · rw [if_pos h0]; exact zrow_eq x1 x2 _ _ (by dsimp only; rw [h0]; rfl) j
    · rw [if_neg h0]
      exact zrow_eq x1 x2 _ _ (by dsimp only; omega) j
  · exact zrow_eq x1 x2 _ _ rfl j

/-- ONE BLOCK OF THE RESULT at row `i`, feature `d`. -/
def blockRow (i : Fin 512) (d : Fin 2048) : EReal :=
  result (fun y => x6 (ix2 i y)) (fun y => x7 (ix2 0 y)) (fun y => x8 (ix2 0 y))
    (mixrow t x0 x1 x2 x3 x4 x5 x9 x10 x11 i) (fun y => x12 (ix2 0 y)) (fun y => x13 (ix2 0 y)) d

/-- Of two stores to the halves of a block, the later one holds the upper rows. -/
theorem canon_high {e : EltTy} (p q : S256x2048.Idx → Elt Ideal e) (k : Fin 256) (d : Fin 2048) :
    View.canon (Val := Elt Ideal) [⟨r0_11, p⟩, ⟨r0_8, q⟩] (ix2 (⟨256 + k.val, Nat.add_lt_add_left k.isLt 256⟩ : Fin 512) d) = p (ix2 k d) := by
  have e1 : (r0_11.emb (ix2 k d) : S512x2048.Idx) = ix2 (⟨256 + k.val, Nat.add_lt_add_left k.isLt 256⟩ : Fin 512) d := by
    funext a
    apply Fin.ext
    match a with
    | ⟨0, _⟩ => show 256 + 1 * k.val = 256 + k.val; omega
    | ⟨1, _⟩ => show 0 + 1 * d.val = d.val; omega
  rw [← e1]
  exact View.canon_cons_emb r0_11 p _ _

/-- And the earlier one the lower rows. -/
theorem canon_low {e : EltTy} (p q : S256x2048.Idx → Elt Ideal e) (k : Fin 256) (d : Fin 2048) :
    View.canon (Val := Elt Ideal) [⟨r0_11, p⟩, ⟨r0_8, q⟩] (ix2 (⟨k.val, Nat.lt_trans k.isLt (by decide)⟩ : Fin 512) d) = q (ix2 k d) := by
  have e1 : (r0_8.emb (ix2 k d) : S512x2048.Idx) = ix2 (⟨k.val, Nat.lt_trans k.isLt (by decide)⟩ : Fin 512) d := by
    funext a
    apply Fin.ext
    match a with
    | ⟨0, _⟩ => show 0 + 1 * k.val = k.val; omega
    | ⟨1, _⟩ => show 0 + 1 * d.val = d.val; omega
  rw [View.canon_cons_of_not_mem ⟨r0_11, p⟩ _ (Rect.not_mem_set_of_axis r0_11 _ (0 : Fin 2) 256 256 rfl rfl rfl (Or.inl k.isLt)), ← e1]
  exact View.canon_cons_emb r0_8 q _ _

/-- The wide result's block. -/
theorem out14_apply (i : Fin 512) (d : Fin 2048) :
    out0_14 t x0 x1 x2 x3 x4 x5 x6 x7 x8 x9 x10 x11 x12 x13 (ix2 i d) = blockRow t x0 x1 x2 x3 x4 x5 x6 x7 x8 x9 x10 x11 x12 x13 i d := by
  have hi := i.isLt
  by_cases h : i.val < 256
  · have hk : ∃ k : Fin 256, i = ⟨k.val, Nat.lt_trans k.isLt (by decide)⟩ := ⟨⟨i.val, h⟩, rfl⟩
    clear h hi
    obtain ⟨k, rfl⟩ := hk
    have hl := out_low t x0 x1 x2 x3 x4 x5 x6 x7 x8 x9 x10 x11 x12 x13 k d
    unfold blockRow
    rw [← funext (mix_low t x0 x1 x2 x3 x4 x5 x6 x7 x8 x9 x10 x11 x12 x13 k), ← hl]
    unfold out0_14
    exact canon_low _ _ k d
  · have hk : ∃ k : Fin 256, i = ⟨256 + k.val, Nat.add_lt_add_left k.isLt 256⟩ := ⟨⟨i.val - 256, by omega⟩, Fin.ext (by dsimp only; omega)⟩
    clear h hi
    obtain ⟨k, rfl⟩ := hk
    have hl := out_high t x0 x1 x2 x3 x4 x5 x6 x7 x8 x9 x10 x11 x12 x13 k d
    unfold blockRow
    rw [← funext (mix_high t x0 x1 x2 x3 x4 x5 x6 x7 x8 x9 x10 x11 x12 x13 k), ← hl]
    unfold out0_14
    exact canon_high _ _ k d

/-- The narrowed result's block. -/
theorem out15_apply (i : Fin 512) (d : Fin 2048) :
    out0_15 t x0 x1 x2 x3 x4 x5 x6 x7 x8 x9 x10 x11 x12 x13 (ix2 i d) = blockRow t x0 x1 x2 x3 x4 x5 x6 x7 x8 x9 x10 x11 x12 x13 i d := by
  have hi := i.isLt
  by_cases h : i.val < 256
  · have hk : ∃ k : Fin 256, i = ⟨k.val, Nat.lt_trans k.isLt (by decide)⟩ := ⟨⟨i.val, h⟩, rfl⟩
    clear h hi
    obtain ⟨k, rfl⟩ := hk
    have hl := out_low t x0 x1 x2 x3 x4 x5 x6 x7 x8 x9 x10 x11 x12 x13 k d
    unfold blockRow
    rw [← funext (mix_low t x0 x1 x2 x3 x4 x5 x6 x7 x8 x9 x10 x11 x12 x13 k), ← hl]
    unfold out0_15
    refine (canon_low _ _ k d).trans ?_
    pointwise [k0_pay12]
  · have hk : ∃ k : Fin 256, i = ⟨256 + k.val, Nat.add_lt_add_left k.isLt 256⟩ := ⟨⟨i.val - 256, by omega⟩, Fin.ext (by dsimp only; omega)⟩
    clear h hi
    obtain ⟨k, rfl⟩ := hk
    have hl := out_high t x0 x1 x2 x3 x4 x5 x6 x7 x8 x9 x10 x11 x12 x13 k d
    unfold blockRow
    rw [← funext (mix_high t x0 x1 x2 x3 x4 x5 x6 x7 x8 x9 x10 x11 x12 x13 k), ← hl]
    unfold out0_15
    refine (canon_high _ _ k d).trans ?_
    pointwise [k0_pay24]

end Cert.Mix

end
-- ==== Proof.MixValue.lean ====
/-
  The mix call's kernel, whole: its two results are the reference's, entry by entry, as functions of the launched
  arguments.
-/
module

public import proofs.«01_k».proof.Proof.MixBlocks

@[expose] public section

noncomputable section

namespace Cert.Mix

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (c : Dev nD)

/-- The input rows. -/
theorem V_v2 (n : Fin 32768) (d : Fin 2048) : V m c main_v2 (ix2 n d) = m ((c : Thread nD τ).loc main_arg0) (ix3 (⟨n.val / 16384, by omega⟩ : Fin 2) (⟨n.val % 16384, by omega⟩ : Fin 16384) d) := by
  show StableHlo.after (List.flatten [hostOps0, hostOps0_1, hostOps0_2]) (fun b => m (c, b)) (Proc.devRef .tc main_v2) (ix2 n d) = _
  simp only [List.flatten_cons, List.flatten_nil, List.append_nil, List.cons_append, List.nil_append, hostOps0, hostOps0_1, hostOps0_2]
  after_results
  pointwise
  try rfl

/-- The input norm's gain. -/
theorem V_v3 (d : Fin 2048) : V m c main_v3 (ix2 0 d) = m ((c : Thread nD τ).loc main_arg3) (ix1 d) := by
  show StableHlo.after (List.flatten [hostOps0, hostOps0_1, hostOps0_2]) (fun b => m (c, b)) (Proc.devRef .tc main_v3) (ix2 0 d) = _
  simp only [List.flatten_cons, List.flatten_nil, List.append_nil, List.cons_append, List.nil_append, hostOps0, hostOps0_1, hostOps0_2]
  after_results
  pointwise
  try rfl

/-- The input norm's bias. -/
theorem V_v4 (d : Fin 2048) : V m c main_v4 (ix2 0 d) = m ((c : Thread nD τ).loc main_arg4) (ix1 d) := by
  show StableHlo.after (List.flatten [hostOps0, hostOps0_1, hostOps0_2]) (fun b => m (c, b)) (Proc.devRef .tc main_v4) (ix2 0 d) = _
  simp only [List.flatten_cons, List.flatten_nil, List.append_nil, List.cons_append, List.nil_append, hostOps0, hostOps0_1, hostOps0_2]
  after_results
  pointwise
  try rfl

/-- The convolution's three taps, in an array of eight rows. -/
theorem V_v1 (r : Fin 3) (j : Fin 1024) : V m c main_v1 (ix2 (⟨r.val, by omega⟩ : Fin 8) j) = m ((c : Thread nD τ).loc main_arg5) (ix3 0 r j) := by
  show StableHlo.after (List.flatten [hostOps0, hostOps0_1, hostOps0_2]) (fun b => m (c, b)) (Proc.devRef .tc main_v1) (ix2 (⟨r.val, by omega⟩ : Fin 8) j) = _
  simp only [List.flatten_cons, List.flatten_nil, List.append_nil, List.cons_append, List.nil_append, hostOps0, hostOps0_1, hostOps0_2]
  after_results
  pointwise
  show pad S8x1024 ![0, 0] ![5, 0] ![0, 0] (fun i : S3x1024.Idx => (m (c, Proc.devRef .tc main_arg5) (ix3 (0 : Fin 1) (i 0) (i 1)) : Elt Ideal .f32))
    (sitofp (F := Ideal) FTy.f32 (constantI S_ 32 0#32)) pads_S3x1024_S8x1024_050_000 h_S_ (ix2 (⟨r.val, by omega⟩ : Fin 8) j) = _
  pointwise
  try rfl

/-- The convolution's bias. -/
theorem V_v6 (j : Fin 1024) : V m c main_v6 (ix2 0 j) = m ((c : Thread nD τ).loc main_arg6) (ix2 0 j) := by
  show StableHlo.after (List.flatten [hostOps0, hostOps0_1, hostOps0_2]) (fun b => m (c, b)) (Proc.devRef .tc main_v6) (ix2 0 j) = _
  simp only [List.flatten_cons, List.flatten_nil, List.append_nil, List.cons_append, List.nil_append, hostOps0, hostOps0_1, hostOps0_2]
  after_results
  pointwise
  try rfl

/-- The output projection. -/
theorem V_v8 (k d : Fin 2048) : V m c main_v8 (ix2 k d) = m ((c : Thread nD τ).loc main_arg7) (ix3 0 k d) := by
  show StableHlo.after (List.flatten [hostOps0, hostOps0_1, hostOps0_2]) (fun b => m (c, b)) (Proc.devRef .tc main_v8) (ix2 k d) = _
  simp only [List.flatten_cons, List.flatten_nil, List.append_nil, List.cons_append, List.nil_append, hostOps0, hostOps0_1, hostOps0_2]
  after_results
  pointwise
  try rfl

/-- The norm's gain. -/
theorem V_v10 (d : Fin 2048) : V m c main_v10 (ix2 0 d) = m ((c : Thread nD τ).loc main_arg8) (ix2 0 d) := by
  show StableHlo.after (List.flatten [hostOps0, hostOps0_1, hostOps0_2]) (fun b => m (c, b)) (Proc.devRef .tc main_v10) (ix2 0 d) = _
  simp only [List.flatten_cons, List.flatten_nil, List.append_nil, List.cons_append, List.nil_append, hostOps0, hostOps0_1, hostOps0_2]
  after_results
  pointwise
  try rfl

/-- The norm's bias. -/
theorem V_v12 (d : Fin 2048) : V m c main_v12 (ix2 0 d) = m ((c : Thread nD τ).loc main_arg9) (ix2 0 d) := by
  show StableHlo.after (List.flatten [hostOps0, hostOps0_1, hostOps0_2]) (fun b => m (c, b)) (Proc.devRef .tc main_v12) (ix2 0 d) = _
  simp only [List.flatten_cons, List.flatten_nil, List.append_nil, List.cons_append, List.nil_append, hostOps0, hostOps0_1, hostOps0_2]
  after_results
  pointwise
  try rfl

theorem index_0 : ∀ t : Fin cfg0.N, win0_0.index t (0 : Fin 2) = t.val ∧ win0_0.index t (1 : Fin 2) = 0 :=
  (by decide +kernel : ∀ t : Fin grid0.N, _)

theorem index_1 : ∀ t : Fin cfg0.N, win0_1.index t (0 : Fin 2) = t.val ∧ win0_1.index t (1 : Fin 2) = 1 :=
  (by decide +kernel : ∀ t : Fin grid0.N, _)

theorem index_2 : ∀ t : Fin cfg0.N, (win0_2.index t (0 : Fin 2) = t.val ∧ win0_2.index t (1 : Fin 2) = 2) :=
  (by decide +kernel : ∀ t : Fin grid0.N, _)

theorem index_3 : ∀ t : Fin cfg0.N, win0_3.index t (0 : Fin 2) = 32 * t.val - 1 ∧ win0_3.index t (1 : Fin 2) = 1 :=
  (by decide +kernel : ∀ t : Fin grid0.N, _)

theorem index_4 : ∀ t : Fin cfg0.N, (win0_4.index t (0 : Fin 2) = 32 * t.val - 1 ∧ win0_4.index t (1 : Fin 2) = 2) :=
  (by decide +kernel : ∀ t : Fin grid0.N, _)

theorem index_5 : ∀ t : Fin cfg0.N, win0_5.index t (0 : Fin 2) = t.val ∧ win0_5.index t (1 : Fin 2) = 0 :=
  (by decide +kernel : ∀ t : Fin grid0.N, _)

theorem index_6 : ∀ t : Fin cfg0.N, win0_6.index t (0 : Fin 2) = t.val ∧ win0_6.index t (1 : Fin 2) = 0 :=
  (by decide +kernel : ∀ t : Fin grid0.N, _)

theorem index_7 : ∀ t : Fin cfg0.N, win0_7.index t (0 : Fin 2) = 0 ∧ win0_7.index t (1 : Fin 2) = 0 :=
  (by decide +kernel : ∀ t : Fin grid0.N, _)

theorem index_8 : ∀ t : Fin cfg0.N, win0_8.index t (0 : Fin 2) = 0 ∧ win0_8.index t (1 : Fin 2) = 0 :=
  (by decide +kernel : ∀ t : Fin grid0.N, _)

theorem index_9 : ∀ t : Fin cfg0.N, win0_9.index t (0 : Fin 2) = 0 ∧ win0_9.index t (1 : Fin 2) = 0 :=
  (by decide +kernel : ∀ t : Fin grid0.N, _)

theorem index_10 : ∀ t : Fin cfg0.N, win0_10.index t (0 : Fin 2) = 0 ∧ win0_10.index t (1 : Fin 2) = 0 :=
  (by decide +kernel : ∀ t : Fin grid0.N, _)

theorem index_11 : ∀ t : Fin cfg0.N, win0_11.index t (0 : Fin 2) = 0 ∧ win0_11.index t (1 : Fin 2) = 0 :=
  (by decide +kernel : ∀ t : Fin grid0.N, _)

theorem index_12 : ∀ t : Fin cfg0.N, win0_12.index t (0 : Fin 2) = 0 ∧ win0_12.index t (1 : Fin 2) = 0 :=
  (by decide +kernel : ∀ t : Fin grid0.N, _)

theorem index_13 : ∀ t : Fin cfg0.N, win0_13.index t (0 : Fin 2) = 0 ∧ win0_13.index t (1 : Fin 2) = 0 :=
  (by decide +kernel : ∀ t : Fin grid0.N, _)

theorem index_14 : ∀ t : Fin cfg0.N, win0_14.index t (0 : Fin 2) = t.val ∧ win0_14.index t (1 : Fin 2) = 0 ∧ win0_14.flush t = true :=
  (by decide +kernel : ∀ t : Fin grid0.N, _)

theorem index_15 : ∀ t : Fin cfg0.N, win0_15.index t (0 : Fin 2) = t.val ∧ win0_15.index t (1 : Fin 2) = 0 ∧ win0_15.flush t = true :=
  (by decide +kernel : ∀ t : Fin grid0.N, _)

theorem index_16 : ∀ t : Fin cfg0.N, (grid0.coords t 0).val = t.val :=
  (by decide +kernel : ∀ t : Fin grid0.N, _)

/-- The gate's block. -/
theorem blk_0 (t : Fin cfg0.N) (i : Fin 512) (j : Fin 1024) (n : Fin 32768) (hn : n.val = 512 * t.val + i.val) :
    (iblk m c 0 t : Vec Ideal S512x1024 .bf16) (ix2 i j) = m ((c : Thread nD τ).loc main_arg1) (ix2 n (⟨0 + j.val, by omega⟩ : Fin 7168)) := by
  obtain ⟨h0, h1⟩ := index_0 t
  refine Eq.trans ?_ (congrFun (V_main_arg1 m c) (ix2 n (⟨0 + j.val, by omega⟩ : Fin 7168)))
  unfold iblk
  show V m c main_arg1 _ = V m c main_arg1 _
  congr 1
  funext a
  apply Fin.ext
  match a with
  | ⟨0, _⟩ => show win0_0.index t (0 : Fin 2) * 512 + 1 * i.val = n.val; (try dsimp only); omega
  | ⟨1, _⟩ => show win0_0.index t (1 : Fin 2) * 1024 + 1 * j.val = 0 + j.val; (try dsimp only); omega

/-- The first factor's block. -/
theorem blk_1 (t : Fin cfg0.N) (i : Fin 512) (j : Fin 1024) (n : Fin 32768) (hn : n.val = 512 * t.val + i.val) :
    (iblk m c 1 t : Vec Ideal S512x1024 .bf16) (ix2 i j) = m ((c : Thread nD τ).loc main_arg1) (ix2 n (⟨1024 + j.val, by omega⟩ : Fin 7168)) := by
  obtain ⟨h0, h1⟩ := index_1 t
  refine Eq.trans ?_ (congrFun (V_main_arg1 m c) (ix2 n (⟨1024 + j.val, by omega⟩ : Fin 7168)))
  unfold iblk
  show V m c main_arg1 _ = V m c main_arg1 _
  congr 1
  funext a
  apply Fin.ext
  match a with
  | ⟨0, _⟩ => show win0_1.index t (0 : Fin 2) * 512 + 1 * i.val = n.val; (try dsimp only); omega
  | ⟨1, _⟩ => show win0_1.index t (1 : Fin 2) * 1024 + 1 * j.val = 1024 + j.val; (try dsimp only); omega

/-- The second factor's block. -/
theorem blk_2 (t : Fin cfg0.N) (i : Fin 512) (j : Fin 1024) (n : Fin 32768) (hn : n.val = 512 * t.val + i.val) :
    (iblk m c 2 t : Vec Ideal S512x1024 .bf16) (ix2 i j) = m ((c : Thread nD τ).loc main_arg1) (ix2 n (⟨2048 + j.val, by omega⟩ : Fin 7168)) := by
  obtain ⟨h0, h1⟩ := index_2 t
  refine Eq.trans ?_ (congrFun (V_main_arg1 m c) (ix2 n (⟨2048 + j.val, by omega⟩ : Fin 7168)))
  unfold iblk
  show V m c main_arg1 _ = V m c main_arg1 _
  congr 1
  funext a
  apply Fin.ext
  match a with
  | ⟨0, _⟩ => show win0_2.index t (0 : Fin 2) * 512 + 1 * i.val = n.val; (try dsimp only); omega
  | ⟨1, _⟩ => show win0_2.index t (1 : Fin 2) * 1024 + 1 * j.val = 2048 + j.val; (try dsimp only); omega

/-- The sixteen rows before the block, of the first factor. -/
theorem blk_3 (t : Fin cfg0.N) (i : Fin 16) (j : Fin 1024) (n : Fin 32768) (ht : 0 < t.val) (hn : n.val + 16 = 512 * t.val + i.val) :
    (iblk m c 3 t : Vec Ideal S16x1024 .bf16) (ix2 i j) = m ((c : Thread nD τ).loc main_arg1) (ix2 n (⟨1024 + j.val, by omega⟩ : Fin 7168)) := by
  obtain ⟨h0, h1⟩ := index_3 t
  refine Eq.trans ?_ (congrFun (V_main_arg1 m c) (ix2 n (⟨1024 + j.val, by omega⟩ : Fin 7168)))
  unfold iblk
  show V m c main_arg1 _ = V m c main_arg1 _
  congr 1
  funext a
  apply Fin.ext
  match a with
  | ⟨0, _⟩ => show win0_3.index t (0 : Fin 2) * 16 + 1 * i.val = n.val; (try dsimp only); omega
  | ⟨1, _⟩ => show win0_3.index t (1 : Fin 2) * 1024 + 1 * j.val = 1024 + j.val; (try dsimp only); omega

/-- The sixteen rows before the block, of the second factor. -/
theorem blk_4 (t : Fin cfg0.N) (i : Fin 16) (j : Fin 1024) (n : Fin 32768) (ht : 0 < t.val) (hn : n.val + 16 = 512 * t.val + i.val) :
    (iblk m c 4 t : Vec Ideal S16x1024 .bf16) (ix2 i j) = m ((c : Thread nD τ).loc main_arg1) (ix2 n (⟨2048 + j.val, by omega⟩ : Fin 7168)) := by
  obtain ⟨h0, h1⟩ := index_4 t
  refine Eq.trans ?_ (congrFun (V_main_arg1 m c) (ix2 n (⟨2048 + j.val, by omega⟩ : Fin 7168)))
  unfold iblk
  show V m c main_arg1 _ = V m c main_arg1 _
  congr 1
  funext a
  apply Fin.ext
  match a with
  | ⟨0, _⟩ => show win0_4.index t (0 : Fin 2) * 16 + 1 * i.val = n.val; (try dsimp only); omega
  | ⟨1, _⟩ => show win0_4.index t (1 : Fin 2) * 1024 + 1 * j.val = 2048 + j.val; (try dsimp only); omega

/-- The recurrence's block. -/
theorem blk_5 (t : Fin cfg0.N) (i : Fin 512) (j : Fin 1024) (n : Fin 32768) (hn : n.val = 512 * t.val + i.val) :
    (iblk m c 5 t : Vec Ideal S512x1024 .bf16) (ix2 i j) = m ((c : Thread nD τ).loc main_arg2) (ix2 n j) := by
  obtain ⟨h0, h1⟩ := index_5 t
  refine Eq.trans ?_ (congrFun (V_main_arg2 m c) (ix2 n j))
  unfold iblk
  show V m c main_arg2 _ = V m c main_arg2 _
  congr 1
  funext a
  apply Fin.ext
  match a with
  | ⟨0, _⟩ => show win0_5.index t (0 : Fin 2) * 512 + 1 * i.val = n.val; (try dsimp only); omega
  | ⟨1, _⟩ => show win0_5.index t (1 : Fin 2) * 1024 + 1 * j.val = j.val; (try dsimp only); omega

/-- The input rows' block. -/
theorem blk_6 (t : Fin cfg0.N) (i : Fin 512) (d : Fin 2048) (n : Fin 32768) (hn : n.val = 512 * t.val + i.val) :
    (iblk m c 6 t : Vec Ideal S512x2048 .f32) (ix2 i d) = m ((c : Thread nD τ).loc main_arg0) (ix3 (⟨n.val / 16384, by omega⟩ : Fin 2) (⟨n.val % 16384, by omega⟩ : Fin 16384) d) := by
  obtain ⟨h0, h1⟩ := index_6 t
  refine Eq.trans ?_ (V_v2 m c n d)
  unfold iblk
  show V m c main_v2 _ = V m c main_v2 _
  congr 1
  funext a
  apply Fin.ext
  match a with
  | ⟨0, _⟩ => show win0_6.index t (0 : Fin 2) * 512 + 1 * i.val = n.val; (try dsimp only); omega
  | ⟨1, _⟩ => show win0_6.index t (1 : Fin 2) * 2048 + 1 * d.val = d.val; (try dsimp only); omega

/-- The input norm's gain, whole. -/
theorem blk_7 (t : Fin cfg0.N) (d : Fin 2048) :
    (iblk m c 7 t : Vec Ideal S1x2048 .f32) (ix2 0 d) = m ((c : Thread nD τ).loc main_arg3) (ix1 d) := by
  obtain ⟨h0, h1⟩ := index_7 t
  refine Eq.trans ?_ (V_v3 m c d)
  unfold iblk
  show V m c main_v3 _ = V m c main_v3 _
  congr 1
  funext a
  apply Fin.ext
  match a with
  | ⟨0, _⟩ => show win0_7.index t (0 : Fin 2) * 1 + 1 * 0 = 0; (try dsimp only); omega
  | ⟨1, _⟩ => show win0_7.index t (1 : Fin 2) * 2048 + 1 * d.val = d.val; (try dsimp only); omega

/-- The input norm's bias, whole. -/
theorem blk_8 (t : Fin cfg0.N) (d : Fin 2048) :
    (iblk m c 8 t : Vec Ideal S1x2048 .f32) (ix2 0 d) = m ((c : Thread nD τ).loc main_arg4) (ix1 d) := by
  obtain ⟨h0, h1⟩ := index_8 t
  refine Eq.trans ?_ (V_v4 m c d)
  unfold iblk
  show V m c main_v4 _ = V m c main_v4 _
  congr 1
  funext a
  apply Fin.ext
  match a with
  | ⟨0, _⟩ => show win0_8.index t (0 : Fin 2) * 1 + 1 * 0 = 0; (try dsimp only); omega
  | ⟨1, _⟩ => show win0_8.index t (1 : Fin 2) * 2048 + 1 * d.val = d.val; (try dsimp only); omega

/-- The taps, whole. -/
theorem blk_9 (t : Fin cfg0.N) (r : Fin 3) (j : Fin 1024) :
    (iblk m c 9 t : Vec Ideal S8x1024 .f32) (ix2 (⟨r.val, by omega⟩ : Fin 8) j) = m ((c : Thread nD τ).loc main_arg5) (ix3 0 r j) := by
  obtain ⟨h0, h1⟩ := index_9 t
  refine Eq.trans ?_ (V_v1 m c r j)
  unfold iblk
  show V m c main_v1 _ = V m c main_v1 _
  congr 1
  funext a
  apply Fin.ext
  match a with
  | ⟨0, _⟩ => show win0_9.index t (0 : Fin 2) * 8 + 1 * r.val = r.val; (try dsimp only); omega
  | ⟨1, _⟩ => show win0_9.index t (1 : Fin 2) * 1024 + 1 * j.val = j.val; (try dsimp only); omega

/-- The convolution's bias, whole. -/
theorem blk_10 (t : Fin cfg0.N) (j : Fin 1024) :
    (iblk m c 10 t : Vec Ideal S1x1024 .f32) (ix2 0 j) = m ((c : Thread nD τ).loc main_arg6) (ix2 0 j) := by
  obtain ⟨h0, h1⟩ := index_10 t
  refine Eq.trans ?_ (V_v6 m c j)
  unfold iblk
  show V m c main_v6 _ = V m c main_v6 _
  congr 1
  funext a
  apply Fin.ext
  match a with
  | ⟨0, _⟩ => show win0_10.index t (0 : Fin 2) * 1 + 1 * 0 = 0; (try dsimp only); omega
  | ⟨1, _⟩ => show win0_10.index t (1 : Fin 2) * 1024 + 1 * j.val = j.val; (try dsimp only); omega

/-- The output projection, whole. -/
theorem blk_11 (t : Fin cfg0.N) (k d : Fin 2048) :
    (iblk m c 11 t : Vec Ideal S2048x2048 .bf16) (ix2 k d) = m ((c : Thread nD τ).loc main_arg7) (ix3 0 k d) := by
  obtain ⟨h0, h1⟩ := index_11 t
  refine Eq.trans ?_ (V_v8 m c k d)
  unfold iblk
  show V m c main_v8 _ = V m c main_v8 _
  congr 1
  funext a
  apply Fin.ext
  match a with
  | ⟨0, _⟩ => show win0_11.index t (0 : Fin 2) * 2048 + 1 * k.val = k.val; (try dsimp only); omega
  | ⟨1, _⟩ => show win0_11.index t (1 : Fin 2) * 2048 + 1 * d.val = d.val; (try dsimp only); omega

/-- The norm's gain, whole. -/
theorem blk_12 (t : Fin cfg0.N) (d : Fin 2048) :
    (iblk m c 12 t : Vec Ideal S1x2048 .f32) (ix2 0 d) = m ((c : Thread nD τ).loc main_arg8) (ix2 0 d) := by
  obtain ⟨h0, h1⟩ := index_12 t
  refine Eq.trans ?_ (V_v10 m c d)
  unfold iblk
  show V m c main_v10 _ = V m c main_v10 _
  congr 1
  funext a
  apply Fin.ext
  match a with
  | ⟨0, _⟩ => show win0_12.index t (0 : Fin 2) * 1 + 1 * 0 = 0; (try dsimp only); omega
  | ⟨1, _⟩ => show win0_12.index t (1 : Fin 2) * 2048 + 1 * d.val = d.val; (try dsimp only); omega

/-- The norm's bias, whole. -/
theorem blk_13 (t : Fin cfg0.N) (d : Fin 2048) :
    (iblk m c 13 t : Vec Ideal S1x2048 .f32) (ix2 0 d) = m ((c : Thread nD τ).loc main_arg9) (ix2 0 d) := by
  obtain ⟨h0, h1⟩ := index_13 t
  refine Eq.trans ?_ (V_v12 m c d)
  unfold iblk
  show V m c main_v12 _ = V m c main_v12 _
  congr 1
  funext a
  apply Fin.ext
  match a with
  | ⟨0, _⟩ => show win0_13.index t (0 : Fin 2) * 1 + 1 * 0 = 0; (try dsimp only); omega
  | ⟨1, _⟩ => show win0_13.index t (1 : Fin 2) * 2048 + 1 * d.val = d.val; (try dsimp only); omega

/-- The projection's array by rows. -/
abbrev proj (n : Fin 32768) (k : Fin 7168) : EReal := m ((c : Thread nD τ).loc main_arg1) (ix2 n k)

/-- A block's row of the convolution's input is the token's. -/
theorem zrow_blk (t : Fin cfg0.N) (i n : ℕ) (hi : i < 512) (hn : n = 512 * t.val + i) (j : Fin 1024) :
    zrow (iblk m c 1 t) (iblk m c 2 t) i j = zz (proj m c) n j := by
  have ht : t.val < 64 := lt_of_lt_of_eq t.isLt N_0
  rw [zrow, dif_pos hi, zz, dif_pos (by omega), blk_1 m c t ⟨i, hi⟩ j ⟨n, by omega⟩ hn, blk_2 m c t ⟨i, hi⟩ j ⟨n, by omega⟩ hn]

/-- A block's reach back is the token's, in the token's own sequence. -/
theorem zshift_blk (t : Fin cfg0.N) (i n k : ℕ) (hk : k ≤ 2) (hi : i < 512) (hn : n = 512 * t.val + i) (j : Fin 1024) :
    zshift (grid0.coords t) (iblk m c 1 t) (iblk m c 2 t) (iblk m c 3 t) (iblk m c 4 t) i k j = shifted (proj m c) n k j := by
  have ht : t.val < 64 := lt_of_lt_of_eq t.isLt N_0
  unfold zshift shifted
  rw [index_16 t]
  by_cases h : k ≤ i
  · rw [if_pos h, if_neg (by omega)]
    exact zrow_blk m c t (i - k) (n - k) (by omega) (by omega) j
  · rw [if_neg h]
    by_cases h2 : t.val % 32 = 0
    · rw [if_pos h2, if_pos (by omega)]
    · rw [if_neg h2, if_neg (by omega), dif_pos (by omega), zz, dif_pos (by omega),
        blk_3 m c t ⟨16 + i - k, by omega⟩ j ⟨n - k, by omega⟩ (by omega) (by dsimp only; omega),
        blk_4 m c t ⟨16 + i - k, by omega⟩ j ⟨n - k, by omega⟩ (by omega) (by dsimp only; omega)]

/-- The reference's result, at a token and a feature. -/
def res (n : Fin 32768) (d : Fin 2048) : EReal :=
  result (fun y => m ((c : Thread nD τ).loc main_arg0) (ix3 (⟨n.val / 16384, by omega⟩ : Fin 2) (⟨n.val % 16384, by omega⟩ : Fin 16384) y))
    (fun y => m ((c : Thread nD τ).loc main_arg3) (ix1 y)) (fun y => m ((c : Thread nD τ).loc main_arg4) (ix1 y))
    (mixed (proj m c) (fun k j => m ((c : Thread nD τ).loc main_arg5) (ix3 0 k j)) (fun j => m ((c : Thread nD τ).loc main_arg6) (ix2 0 j)) (fun n j => m ((c : Thread nD τ).loc main_arg2) (ix2 n j))
      (fun k y => m ((c : Thread nD τ).loc main_arg7) (ix3 0 k y)) n)
    (fun y => m ((c : Thread nD τ).loc main_arg8) (ix2 0 y)) (fun y => m ((c : Thread nD τ).loc main_arg9) (ix2 0 y)) d

/-- A block's row of the output projection is the token's. -/
theorem mixrow_blk (t : Fin cfg0.N) (i : Fin 512) (n : Fin 32768) (hn : n.val = 512 * t.val + i.val) (d : Fin 2048) :
    mixrow (grid0.coords t) (iblk m c 0 t) (iblk m c 1 t) (iblk m c 2 t) (iblk m c 3 t) (iblk m c 4 t) (iblk m c 5 t) (iblk m c 9 t) (iblk m c 10 t) (iblk m c 11 t) i d
      = mixed (proj m c) (fun k j => m ((c : Thread nD τ).loc main_arg5) (ix3 0 k j)) (fun j => m ((c : Thread nD τ).loc main_arg6) (ix2 0 j)) (fun n j => m ((c : Thread nD τ).loc main_arg2) (ix2 n j))
      (fun k y => m ((c : Thread nD τ).loc main_arg7) (ix3 0 k y)) n d := by
  unfold mixrow mixed gated
  refine congrArg₂ (· + ·) (Finset.sum_congr rfl fun j _ => ?_) (Finset.sum_congr rfl fun j _ => ?_)
  · rw [zshift_blk m c t i.val n.val 2 (by decide) i.isLt hn j, zshift_blk m c t i.val n.val 1 (by decide) i.isLt hn j,
      zrow_blk m c t i.val n.val i.isLt hn j, blk_0 m c t i j n hn, blk_10 m c t j, blk_11 m c t _ d]
    rw [show (iblk m c 9 t : Vec Ideal S8x1024 .f32) (ix2 0 j) = _ from blk_9 m c t 0 j,
      show (iblk m c 9 t : Vec Ideal S8x1024 .f32) (ix2 1 j) = _ from blk_9 m c t 1 j,
      show (iblk m c 9 t : Vec Ideal S8x1024 .f32) (ix2 2 j) = _ from blk_9 m c t 2 j]
    have e : (⟨0 + j.val, by omega⟩ : Fin 7168) = ⟨j.val, by omega⟩ := Fin.ext (Nat.zero_add _)
    rw [e]
  · rw [blk_5 m c t i j n hn, blk_11 m c t _ d]

/-- A block's row of the result is the token's. -/
theorem blockRow_blk (t : Fin cfg0.N) (i : Fin 512) (n : Fin 32768) (hn : n.val = 512 * t.val + i.val) (d : Fin 2048) :
    blockRow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) i d = res m c n d := by
  unfold blockRow res
  rw [funext (mixrow_blk m c t i n hn), funext fun y => blk_6 m c t i y n hn, funext (blk_7 m c t), funext (blk_8 m c t),
    funext (blk_12 m c t), funext (blk_13 m c t)]

/-- The reference's result is that. -/
theorem ref_res (n : Fin 32768) (d : Fin 2048) :
    Cert.Reference3Ideal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 n d) = res m c n d :=
  ref_apply _ _ _ _ _ _ _ _ _ _ n d

/-- THE WIDE RESULT IS THE REFERENCE'S, as a function of the launched arguments. -/
theorem value_eq14 : (dats m 0 c).arrAt 14 cfg0.N = Cert.Reference3Ideal.Read.val_main_v87 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext q
  obtain ⟨n, d, rfl⟩ : ∃ (n : Fin 32768) (d : Fin 2048), q = ix2 n d := ⟨q 0, q 1, ValueIdx.eq_ix2 q⟩
  have hn := n.isLt
  have ht : n.val / 512 < cfg0.N := by rw [show cfg0.N = 64 from N_0]; omega
  obtain ⟨h0, h1, hf⟩ := index_14 ⟨n.val / 512, ht⟩
  have hb := congrFun (blocks14 m c ⟨n.val / 512, ht⟩ hf) (ix2 (⟨n.val % 512, Nat.mod_lt _ (by decide)⟩ : Fin 512) d)
  rw [flushed14] at hb
  have e : ((cfg0.win 14).blk ⟨n.val / 512, ht⟩).view.emb (ix2 (⟨n.val % 512, Nat.mod_lt _ (by decide)⟩ : Fin 512) d) = ix2 n d := by
    funext a
    apply Fin.ext
    match a with
    | ⟨0, _⟩ => show win0_14.index ⟨n.val / 512, ht⟩ (0 : Fin 2) * 512 + 1 * (n.val % 512) = n.val; rw [h0]; dsimp only; omega
    | ⟨1, _⟩ => show win0_14.index ⟨n.val / 512, ht⟩ (1 : Fin 2) * 2048 + 1 * d.val = d.val; omega
  have hl : (dats m 0 c).arrAt 14 cfg0.N (ix2 n d) = res m c n d := by
    rw [← e]
    refine Eq.trans hb ?_
    refine (out14_apply _ _ _ _ _ _ _ _ _ _ _ _ _ _ _ (⟨n.val % 512, Nat.mod_lt _ (by decide)⟩ : Fin 512) d).trans ?_
    exact blockRow_blk m c ⟨n.val / 512, ht⟩ _ n (by dsimp only; omega) d
  rw [hl]
  exact (ref_res m c n d).symm

/-- THE NARROWED RESULT IS THE REFERENCE'S, as a function of the launched arguments. -/
theorem value_eq15 : (dats m 0 c).arrAt 15 cfg0.N = Cert.Reference3Ideal.Read.val_main_v88 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext q
  obtain ⟨n, d, rfl⟩ : ∃ (n : Fin 32768) (d : Fin 2048), q = ix2 n d := ⟨q 0, q 1, ValueIdx.eq_ix2 q⟩
  have hn := n.isLt
  have ht : n.val / 512 < cfg0.N := by rw [show cfg0.N = 64 from N_0]; omega
  obtain ⟨h0, h1, hf⟩ := index_15 ⟨n.val / 512, ht⟩
  have hb := congrFun (blocks15 m c ⟨n.val / 512, ht⟩ hf) (ix2 (⟨n.val % 512, Nat.mod_lt _ (by decide)⟩ : Fin 512) d)
  rw [flushed15] at hb
  have e : ((cfg0.win 15).blk ⟨n.val / 512, ht⟩).view.emb (ix2 (⟨n.val % 512, Nat.mod_lt _ (by decide)⟩ : Fin 512) d) = ix2 n d := by
    funext a
    apply Fin.ext
    match a with
    | ⟨0, _⟩ => show win0_15.index ⟨n.val / 512, ht⟩ (0 : Fin 2) * 512 + 1 * (n.val % 512) = n.val; rw [h0]; dsimp only; omega
    | ⟨1, _⟩ => show win0_15.index ⟨n.val / 512, ht⟩ (1 : Fin 2) * 2048 + 1 * d.val = d.val; omega
  have hl : (dats m 0 c).arrAt 15 cfg0.N (ix2 n d) = res m c n d := by
    rw [← e]
    refine Eq.trans hb ?_
    refine (out15_apply _ _ _ _ _ _ _ _ _ _ _ _ _ _ _ (⟨n.val % 512, Nat.mod_lt _ (by decide)⟩ : Fin 512) d).trans ?_
    exact blockRow_blk m c ⟨n.val / 512, ht⟩ _ n (by dsimp only; omega) d
  rw [hl]
  refine (ref_res m c n d).symm.trans ?_
  pointwise [Cert.Reference3Ideal.Read.val_main_v88]

end Cert.Mix

end
-- ==== Proof.QueriesValue.lean ====
/-
  The retrieval queries' kernel: every entry of its result is the product of a token's row with one column of the query
  weight, the columns taken half by half, and so is every entry of the reference's.
-/
module

public import proofs.«01_k».proof.Proof.Gen.Kernel4Ideal.Value
public import proofs.«01_k».proof.Proof.Gen.Reference4Ideal.Read
public import Idealize.ShloMosaic.Lib.Pointwise
public import Idealize.ShloMosaic.Lib.ValueIdx
public import Idealize.ShloMosaic.Lib.Tactic

@[expose] public section

noncomputable section

namespace Cert.Queries

open Cert.Kernel4Ideal Cert.Kernel4Ideal.Gen Cert.Kernel4Ideal.Value Idealize.ShloMosaic Idealize.ShloMosaic.TcCoe Idealize.SL.Sem

/-- The column of the query weight that row `r` of the result takes: halves outermost, then heads, then lanes. -/
def column (r : Fin 2048) : Fin 2048 :=
  ⟨r.val / 128 % 8 * 256 + r.val / 1024 * 128 + r.val % 128, by have := r.isLt; omega⟩

open Cert.Reference4Ideal Cert.Reference4Ideal.Read in
/-- THE REFERENCE'S RESULT at row `r`, token `n`. -/
theorem ref_apply (a : (⟨Cert.Reference4Ideal.S32768x2048, .f32⟩ : BufTy).Contents (Elt Ideal))
    (q : (⟨Cert.Reference4Ideal.S1x2048x2048, .f32⟩ : BufTy).Contents (Elt Ideal)) (r : Fin 2048) (n : Fin 32768) :
    val_main_v5 (F := Ideal) a q (ix2 r n) = ∑ k : Fin 2048, a (ix2 n k) * q (ix3 0 k (column r)) := by
  pointwise [val_main_v0, val_main_v1, val_main_v2, val_main_v3, val_main_v4, val_main_v5,
    Cert.Reference4Ideal.dot_S32768x2048_S2048x2048_S32768x2048_1_0_0_1_n_n]
  rfl

variable (m : (ℓ : Loc nD τ sig) → Buf (Elt Ideal) ℓ) (c : Dev nD)

/-- The narrowed token array is the launched one. -/
theorem V_v0 (i : Fin 32768) (k : Fin 2048) :
    V m c main_v0 (ix2 i k) = m ((c : Thread nD τ).loc main_arg0) (ix2 i k) := by
  show StableHlo.after hostOps0 (fun b => m (c, b)) (Proc.devRef .tc main_v0) (ix2 i k) = _
  after_results
  pointwise

/-- The query weight, transposed, its columns taken half by half. -/
theorem V_v5 (r k : Fin 2048) :
    V m c main_v5 (ix2 r k) = m ((c : Thread nD τ).loc main_arg1) (ix3 0 k (column r)) := by
  show StableHlo.after hostOps0 (fun b => m (c, b)) (Proc.devRef .tc main_v5) (ix2 r k) = _
  after_results
  pointwise
  rfl

/-- One block of the result, at an entry. -/
theorem pay_apply (w : Vec Ideal S2048x2048 .bf16) (x : Vec Ideal S1024x2048 .bf16) (r : Fin 2048) (n : Fin 1024) :
    k0_pay1 w x (ix2 r n) = ∑ k : Fin 2048, w (ix2 r k) * x (ix2 n k) := by
  pointwise [k0_pay1, dot_S2048x2048_S1024x2048_S2048x1024_1_1_0_0_n_n]

/-- What a grid point leaves in the result's buffer is its one store. -/
theorem out_eq (x : Vec Ideal S1024x2048 .bf16) (w : Vec Ideal S2048x2048 .bf16) : out0_2 x w = k0_pay1 w x := by
  have hz : (![0, 0] : Fin 2 → Nat) = fun _ => 0 := funext fun a => by fin_cases a <;> rfl
  unfold out0_2
  rw [View.canon_unit_zero hz, View.ld_unit_zero hz, View.ld_unit_zero hz]

/-- The index maps, decided over the grid. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val) ∧ win0_2.flush t = true :=
  (by decide +kernel : ∀ t : Fin grid0.N, _)

/-- The block of tokens. -/
theorem blk_tokens (t : Fin cfg0.N) (i : Fin 1024) (k : Fin 2048) (r : Fin 32768) (hr : r.val = 1024 * t.val + i.val) :
    (iblk m c 0 t : Vec Ideal S1024x2048 .bf16) (ix2 i k) = m ((c : Thread nD τ).loc main_arg0) (ix2 r k) := by
  obtain ⟨⟨h0, h1⟩, -⟩ := index_facts t
  refine Eq.trans ?_ (V_v0 m c r k)
  unfold iblk
  show V m c main_v0 _ = V m c main_v0 _
  congr 1
  funext a
  apply Fin.ext
  match a with
  | ⟨0, _⟩ => show win0_0.index t (0 : Fin 2) * 1024 + 1 * i.val = r.val; omega
  | ⟨1, _⟩ => show win0_0.index t (1 : Fin 2) * 2048 + 1 * k.val = k.val; omega

/-- The weight's block is the whole weight. -/
theorem blk_weight (t : Fin cfg0.N) (r k : Fin 2048) :
    (iblk m c 1 t : Vec Ideal S2048x2048 .bf16) (ix2 r k) = m ((c : Thread nD τ).loc main_arg1) (ix3 0 k (column r)) := by
  obtain ⟨-, ⟨h0, h1⟩, -⟩ := index_facts t
  refine Eq.trans ?_ (V_v5 m c r k)
  unfold iblk
  show V m c main_v5 _ = V m c main_v5 _
  congr 1
  funext a
  apply Fin.ext
  match a with
  | ⟨0, _⟩ => show win0_1.index t (0 : Fin 2) * 2048 + 1 * r.val = r.val; omega
  | ⟨1, _⟩ => show win0_1.index t (1 : Fin 2) * 2048 + 1 * k.val = k.val; omega

/-- THE KERNEL'S RESULT IS THE REFERENCE'S, as a function of the launched arguments. -/
theorem value_eq : (dats m 0 c).arrAt 2 cfg0.N = Cert.Reference4Ideal.Read.val_main_v5 (F := Ideal)
    (m ((c : Thread nD τ).loc main_arg0)) (m ((c : Thread nD τ).loc main_arg1)) := by
  funext i
  obtain ⟨r, n, rfl⟩ : ∃ (r : Fin 2048) (n : Fin 32768), i = ix2 r n := ⟨i 0, i 1, ValueIdx.eq_ix2 i⟩
  rw [ref_apply]
  have hn := n.isLt
  have ht : n.val / 1024 < cfg0.N := by rw [show cfg0.N = 32 from N_0]; omega
  obtain ⟨-, -, ⟨h0, h1⟩, hf⟩ := index_facts ⟨n.val / 1024, ht⟩
  have hb := congrFun (blocks2 m c ⟨n.val / 1024, ht⟩ hf) (ix2 r (⟨n.val % 1024, Nat.mod_lt _ (by decide)⟩ : Fin 1024))
  rw [flushed2, out_eq] at hb
  have e : ((cfg0.win 2).blk ⟨n.val / 1024, ht⟩).view.emb (ix2 r (⟨n.val % 1024, Nat.mod_lt _ (by decide)⟩ : Fin 1024)) = ix2 r n := by
    funext a
    apply Fin.ext
    match a with
    | ⟨0, _⟩ => show win0_2.index ⟨n.val / 1024, ht⟩ (0 : Fin 2) * 2048 + 1 * r.val = r.val; omega
    | ⟨1, _⟩ => show win0_2.index ⟨n.val / 1024, ht⟩ (1 : Fin 2) * 1024 + 1 * (n.val % 1024) = n.val; rw [h1]; dsimp only; omega
  have hl : (dats m 0 c).arrAt 2 cfg0.N (ix2 r n)
      = k0_pay1 (iblk m c 1 ⟨n.val / 1024, ht⟩) (iblk m c 0 ⟨n.val / 1024, ht⟩) (ix2 r (⟨n.val % 1024, Nat.mod_lt _ (by decide)⟩ : Fin 1024)) := by
    rw [← e]
    exact hb
  rw [hl]
  refine (pay_apply (iblk m c 1 ⟨n.val / 1024, ht⟩) (iblk m c 0 ⟨n.val / 1024, ht⟩) r _).trans ?_
  refine Finset.sum_congr rfl fun k _ => ?_
  rw [blk_weight, blk_tokens m c _ _ k n (by dsimp only; omega), mul_comm]

end Cert.Queries

end
-- ==== Proof.RunningFold.lean ====
/-
  Running folds over the positions of a chunk: the fold of consecutive entries by an associative and commutative
  operation with a neutral element, the doubling step that builds it, and the window form in which the host writes it.
-/
module

public import Idealize.ShloMosaic.Lib.Pointwise
public import Idealize.ShloMosaic.Lib.ValueIdx
public import Idealize.ShloMosaic.Lib.Tactic

@[expose] public section

noncomputable section

namespace Cert.Running

variable {α : Type} (op : α → α → α) (e : α)

/-- The fold of `n` consecutive entries from `lo` on. -/
def seg (f : ℕ → α) (lo : ℕ) : ℕ → α
  | 0 => e
  | n + 1 => op (seg f lo n) (f (lo + n))

theorem seg_congr (f g : ℕ → α) (lo lo' n : ℕ) (h : ∀ i < n, f (lo + i) = g (lo' + i)) : seg op e f lo n = seg op e g lo' n := by
  induction n with
  | zero => rfl
  | succ n ih =>
    show op (seg op e f lo n) (f (lo + n)) = op (seg op e g lo' n) (g (lo' + n))
    rw [ih fun i hi => h i (Nat.lt_succ_of_lt hi), h n (Nat.lt_succ_self n)]

/-- The fold of the last `w` entries up to position `p`, of fewer at the start. -/
def part (f : ℕ → α) (w p : ℕ) : α := seg op e f (p + 1 - min w (p + 1)) (min w (p + 1))

theorem part_congr (f g : ℕ → α) (w p : ℕ) (h : ∀ i ≤ p, f i = g i) : part op e f w p = part op e g w p :=
  seg_congr op e f g _ _ _ fun i hi => h _ (by omega)

theorem part_all (f : ℕ → α) (w p : ℕ) (h : p < w) : part op e f w p = seg op e f 0 (p + 1) := by
  unfold part
  rw [Nat.min_eq_right (by omega), Nat.sub_self]

section
variable (hassoc : ∀ a b c, op (op a b) c = op a (op b c)) (hcomm : ∀ a b, op a b = op b a) (he : ∀ a, op a e = a)
include he

theorem part_one (hcomm : ∀ a b, op a b = op b a) (f : ℕ → α) (p : ℕ) : part op e f 1 p = f p := by
  unfold part
  rw [Nat.min_eq_left (by omega)]
  show op e (f (p + 1 - 1 + 0)) = f p
  rw [hcomm, he]
  rfl

include hassoc

theorem seg_add (f : ℕ → α) (lo a b : ℕ) : seg op e f lo (a + b) = op (seg op e f lo a) (seg op e f (lo + a) b) := by
  induction b with
  | zero => exact (he _).symm
  | succ b ih =>
    show op (seg op e f lo (a + b)) (f (lo + (a + b))) = op (seg op e f lo a) (op (seg op e f (lo + a) b) (f (lo + a + b)))
    rw [ih, hassoc, Nat.add_assoc]

include hcomm

/-- One doubling: a run of `w` entries and the run of `w` entries before it. -/
theorem part_step (f : ℕ → α) (w p : ℕ) :
    op (part op e f w p) (if w ≤ p then part op e f w (p - w) else e) = part op e f (2 * w) p := by
  by_cases h : w ≤ p
  · rw [if_pos h]
    unfold part
    rw [Nat.min_eq_left (by omega : w ≤ p + 1), hcomm]
    have h1 : p + 1 - w = p - w + 1 - min w (p - w + 1) + min w (p - w + 1) := by omega
    rw [h1, ← seg_add op e hassoc he]
    congr 1 <;> omega
  · rw [if_neg h, he]
    unfold part
    rw [Nat.min_eq_right (by omega), Nat.min_eq_right (by omega)]

end

/-- The window form: `d` neutral entries, then the entries `0 … n`. -/
theorem fold_window (he : ∀ a, op a e = a) (f : ℕ → α) (d n : ℕ) (g : ℕ → α) (hlow : ∀ i < d, g i = e) (hhigh : ∀ i < n, g (d + i) = f i) :
    (List.range (d + n)).foldl (fun r i => op r (g i)) e = seg op e f 0 n := by
  induction n with
  | zero =>
    clear hhigh
    induction d with
    | zero => rfl
    | succ d ih =>
      rw [Nat.add_zero, List.range_succ, List.foldl_append]
      show op ((List.range d).foldl (fun r i => op r (g i)) e) (g d) = e
      rw [hlow d (Nat.lt_succ_self d), he]
      exact ih fun i hi => hlow i (Nat.lt_succ_of_lt hi)
  | succ n ih =>
    rw [← Nat.add_assoc, List.range_succ, List.foldl_append]
    show op ((List.range (d + n)).foldl (fun r i => op r (g i)) e) (g (d + n)) = op (seg op e f 0 n) (f (0 + n))
    rw [ih fun i hi => hhigh i (Nat.lt_succ_of_lt hi), hhigh n (Nat.lt_succ_self n), Nat.zero_add]

theorem foldl_finRange {β : Type} (n m : ℕ) (h : n = m) (k : β → ℕ → β) (b : β) :
    (List.finRange n).foldl (fun r i => k r i.val) b = (List.range m).foldl k b := by
  subst h
  rw [← List.map_coe_finRange_eq_range, List.foldl_map]

end Cert.Running

end
-- ==== Proof.GatesBlock.lean ====
/-
  The gates' scan, one block of 2048 tokens: the doubling steps along a row are running sums and running maxima within
  each chunk of 64 tokens.
-/
module

public import proofs.«01_k».proof.Proof.Gen.Kernel5Ideal.Value
public import proofs.«01_k».proof.Proof.RunningFold
public import Idealize.ShloMosaic.Lib.Pointwise
public import Idealize.ShloMosaic.Lib.ValueIdx
public import Idealize.ShloMosaic.Lib.Tactic

@[expose] public section

noncomputable section

namespace Cert.Gates

open Cert.Running Cert.Kernel5Ideal Cert.Kernel5Ideal.Gen Idealize.ShloMosaic Idealize.ShloMosaic.TcCoe Idealize.SL.Sem

/-- A token's place in its chunk. -/
theorem place_apply (h : Fin 8) (n : Fin 2048) : k0_pay5 (ix2 h n) = BitVec.ofNat 32 (n.val % 64) := by
  pointwise [k0_pay5]
  revert n
  decide +kernel

/-- One step of a scan: the operation with the row turned by `w`, the neutral entry where the chunk has none. -/
def turn (op : EReal → EReal → EReal) (e : EReal) (w : ℕ) (X : FVec Ideal S8x2048 .f32) : FVec Ideal S8x2048 .f32 := fun j =>
  op (X j) (Scalar.select (IntOp.cmpi .sge (k0_pay5 j) (BitVec.ofNat 32 w)) (dynamicRotate 1 (BitVec.ofNat 32 w) none X rotates_S8x2048_d1 j) e)

theorem sge_ofNat (a w : ℕ) (ha : a < 64) (hw : w ≤ 32) (x y : EReal) :
    Scalar.select (IntOp.cmpi .sge (BitVec.ofNat 32 a) (BitVec.ofNat 32 w)) x y = if w ≤ a then x else y := by
  have : ∀ a : Fin 64, ∀ w : Fin 33, IntOp.cmpi .sge (BitVec.ofNat 32 a.val) (BitVec.ofNat 32 w.val) = if w.val ≤ a.val then 1#1 else 0#1 := by
    decide +kernel
  have h := this ⟨a, ha⟩ ⟨w, by omega⟩
  dsimp only at h
  rw [h]
  by_cases hle : w ≤ a
  · rw [if_pos hle, if_pos hle]; rfl
  · rw [if_neg hle, if_neg hle]; rfl

theorem turn_apply (op : EReal → EReal → EReal) (e : EReal) (hassoc : ∀ a b c, op (op a b) c = op a (op b c)) (hcomm : ∀ a b, op a b = op b a)
    (he : ∀ a, op a e = a) (x : Fin 8 → ℕ → EReal) (w : ℕ) (hw : w ≤ 32) (X : FVec Ideal S8x2048 .f32)
    (hX : ∀ h (n : Fin 2048), X (ix2 h n) = part op e (fun p => x h (64 * (n.val / 64) + p)) w (n.val % 64)) (h : Fin 8) (n : Fin 2048) :
    turn op e w X (ix2 h n) = part op e (fun p => x h (64 * (n.val / 64) + p)) (2 * w) (n.val % 64) := by
  have hn := n.isLt
  unfold turn
  rw [place_apply, sge_ofNat _ _ (Nat.mod_lt _ (by decide)) hw, hX, ← part_step op e hassoc hcomm he]
  refine congrArg (op _) ?_
  by_cases hle : w ≤ n.val % 64
  · rw [if_pos hle, if_pos hle]
    have e1 : dynamicRotate 1 (BitVec.ofNat 32 w) none X rotates_S8x2048_d1 (ix2 h n) = X (ix2 h (⟨n.val - w, by omega⟩ : Fin 2048)) := by
      rw [Pointwise.dynamicRotate_apply]
      congr 1
      funext a
      apply Fin.ext
      match a with
      | ⟨0, _⟩ => rfl
      | ⟨1, _⟩ =>
        show (n.val + 2048 - (BitVec.ofNat 32 w).toNat % 2048 - 0) % 2048 = n.val - w
        rw [BitVec.toNat_ofNat]
        omega
    rw [e1, hX]
    dsimp only
    have h1 : (n.val - w) / 64 = n.val / 64 := by omega
    have h2 : (n.val - w) % 64 = n.val % 64 - w := by omega
    rw [h1, h2]
  · rw [if_neg hle, if_neg hle]

/-- The six steps of a scan: the running fold of the chunk. -/
theorem turns_apply (op : EReal → EReal → EReal) (e : EReal) (hassoc : ∀ a b c, op (op a b) c = op a (op b c)) (hcomm : ∀ a b, op a b = op b a)
    (he : ∀ a, op a e = a) (X : FVec Ideal S8x2048 .f32) (x : Fin 8 → ℕ → EReal) (hX : ∀ h (n : Fin 2048), X (ix2 h n) = x h n.val) (h : Fin 8) (n : Fin 2048) :
    turn op e 32 (turn op e 16 (turn op e 8 (turn op e 4 (turn op e 2 (turn op e 1 X))))) (ix2 h n)
      = seg op e (fun p => x h (64 * (n.val / 64) + p)) 0 (n.val % 64 + 1) := by
  rw [← part_all op e _ 64 _ (Nat.mod_lt _ (by decide))]
  refine turn_apply op e hassoc hcomm he x 32 (by decide) _ (fun h n => turn_apply op e hassoc hcomm he x 16 (by decide) _ (fun h n =>
    turn_apply op e hassoc hcomm he x 8 (by decide) _ (fun h n => turn_apply op e hassoc hcomm he x 4 (by decide) _ (fun h n =>
    turn_apply op e hassoc hcomm he x 2 (by decide) _ (fun h n => turn_apply op e hassoc hcomm he x 1 (by decide) _ (fun h n => ?_) h n) h n) h n) h n) h n) h n
  rw [part_one op e he hcomm, hX, Nat.div_add_mod]

/-- The sums' zero and the maxima's least entry. -/
theorem least : Ideal.ofBits .f32 0xFF800000#32 = (⊥ : EReal) := by simp [Ideal.ofBits, Ideal.ieee]

theorem sums (X : FVec Ideal S8x2048 .f32) (x : Fin 8 → ℕ → EReal) (hX : ∀ h (n : Fin 2048), X (ix2 h n) = x h n.val) (h : Fin 8) (n : Fin 2048) :
    k0_pay6 X k0_pay5 1#32 (ix2 h n) = seg (· + ·) 0 (fun p => x h (64 * (n.val / 64) + p)) 0 (n.val % 64 + 1) := by
  refine Eq.trans ?_ (turns_apply (· + ·) 0 add_assoc add_comm add_zero X x hX h n)
  rw [← Ideal.ofBits_zero_f32]
  rfl

theorem maxima (X : FVec Ideal S8x2048 .f32) (x : Fin 8 → ℕ → EReal) (hX : ∀ h (n : Fin 2048), X (ix2 h n) = x h n.val) (h : Fin 8) (n : Fin 2048) :
    turn max ⊥ 32 (turn max ⊥ 16 (turn max ⊥ 8 (turn max ⊥ 4 (turn max ⊥ 2 (turn max ⊥ 1 X))))) (ix2 h n)
      = seg max ⊥ (fun p => x h (64 * (n.val / 64) + p)) 0 (n.val % 64 + 1) :=
  turns_apply max ⊥ max_assoc max_comm (fun a => max_eq_left bot_le) X x hX h n

/-- The columns' first array, by groups of eight lanes: zeros, the entries, their running maxima twice, three times over, the maxima, zeros. -/
def layA {β : Type} (z r M : β) : Fin 16 → β := ![z, r, M, M, z, r, M, M, z, r, M, M, M, z, z, z]

/-- The columns' second array: zeros twice, the running sums twice, three times over, the sums, zeros. -/
def layB {β : Type} (z b : β) : Fin 16 → β := ![z, z, b, b, z, z, b, b, z, z, b, b, b, z, z, z]

theorem layA_apply {ι β : Type} (z r M : ι → β) (g : Fin 16) (i : ι) : layA z r M g i = layA (z i) (r i) (M i) g := by
  fin_cases g <;> rfl

theorem layB_apply {ι β : Type} (z b : ι → β) (g : Fin 16) (i : ι) : layB z b g i = layB (z i) (b i) g := by
  fin_cases g <;> rfl

/-- Sixteen arrays of eight rows, one under another. -/
theorem stacked {W : ℕ} (f : Fin 16 → (⟨2, ![8, W]⟩ : Shape).Idx → EReal)
    (h : Shape.Concatenates ((List.ofFn fun n : Fin 16 => (⟨⟨2, ![8, W]⟩, f n⟩ : (s : Shape) × (s.Idx → EReal))).map (·.1)) (⟨2, ![128, W]⟩ : Shape) 0)
    (d : Fin 128) (n : Fin W) :
    concatenate (⟨2, ![128, W]⟩ : Shape) 0 (List.ofFn fun n : Fin 16 => (⟨⟨2, ![8, W]⟩, f n⟩ : (s : Shape) × (s.Idx → EReal))) h (ix2 d n)
      = f ⟨d.val / 8, by omega⟩ (ix2 (⟨d.val % 8, Nat.mod_lt _ (by decide)⟩ : Fin 8) n) := by
  refine concatenate_ofFn_apply (t := (⟨2, ![128, W]⟩ : Shape)) (s₁ := (⟨2, ![8, W]⟩ : Shape)) (0 : Fin 2) f h rfl 8 rfl (ix2 d n : (⟨2, ![128, W]⟩ : Shape).Idx) _ rfl _ rfl (fun b hb => ?_)
  match b with
  | ⟨0, _⟩ => exact absurd rfl hb
  | ⟨1, _⟩ => rfl

/-- The logarithm of the sigmoid, as the scan spells it. -/
def logSig (z : EReal) : EReal := - (max (-z) 0 + Ideal.log1p (Ideal.exp (- (FloatOps.absf (F := Ideal) (φ := .f32) (-z)))))

/-- The running sums of a row of forget gates, within each chunk of 64 tokens. -/
def bcum (f : ℕ → EReal) (n : ℕ) : EReal := seg (· + ·) 0 (fun p => logSig (f (64 * (n / 64) + p))) 0 (n % 64 + 1)

/-- The entries of the decay: the input gates minus the running sums. -/
def rent (i f : ℕ → EReal) (n : ℕ) : EReal := i n - bcum f n

/-- Their running maxima. -/
def cmax (i f : ℕ → EReal) (n : ℕ) : EReal := seg max ⊥ (fun p => rent i f (64 * (n / 64) + p)) 0 (n % 64 + 1)

theorem bcum_shift (f g : ℕ → EReal) (k m n : ℕ) (hfg : ∀ q, q < 64 * m → f q = g (64 * k + q)) (hn : n < 64 * m) :
    bcum f n = bcum g (64 * k + n) := by
  unfold bcum
  have h1 : (64 * k + n) / 64 = k + n / 64 := by omega
  have h2 : (64 * k + n) % 64 = n % 64 := by omega
  rw [h1, h2]
  refine seg_congr _ _ _ _ _ _ _ (fun p hp => ?_)
  rw [hfg _ (by omega)]
  congr 2
  ring

theorem rent_shift (i j f g : ℕ → EReal) (k m n : ℕ) (hij : ∀ q, q < 64 * m → i q = j (64 * k + q)) (hfg : ∀ q, q < 64 * m → f q = g (64 * k + q))
    (hn : n < 64 * m) : rent i f n = rent j g (64 * k + n) := by
  unfold rent
  rw [hij n hn, bcum_shift f g k m n hfg hn]

theorem cmax_shift (i j f g : ℕ → EReal) (k m n : ℕ) (hij : ∀ q, q < 64 * m → i q = j (64 * k + q)) (hfg : ∀ q, q < 64 * m → f q = g (64 * k + q))
    (hn : n < 64 * m) : cmax i f n = cmax j g (64 * k + n) := by
  unfold cmax
  have h1 : (64 * k + n) / 64 = k + n / 64 := by omega
  have h2 : (64 * k + n) % 64 = n % 64 := by omega
  rw [h1, h2]
  refine seg_congr _ _ _ _ _ _ _ (fun p hp => ?_)
  rw [rent_shift i j f g k m _ hij hfg (by omega)]
  congr 1
  ring

variable (x0 : Vec Ideal S2048x128 .f32) (x1 : Vec Ideal S16x1 .f32)

/-- A gate of the block: column `g` of each token with its bias (zero past the block). -/
def gate (g : Fin 16) (n : ℕ) : EReal := if hn : n < 2048 then x0 (ix2 ⟨n, hn⟩ (⟨g.val, by omega⟩ : Fin 128)) + x1 (ix2 g 0) else 0

/-- The input gates of a head, and its forget gates. -/
def inG (h : Fin 8) : ℕ → EReal := gate x0 x1 ⟨h.val, by omega⟩
def fgG (h : Fin 8) : ℕ → EReal := gate x0 x1 ⟨8 + h.val, by omega⟩

theorem pay3_apply (h : Fin 8) (n : Fin 2048) : k0_pay3 x0 x1 (ix2 h n) = inG x0 x1 h n.val := by
  unfold inG gate
  rw [dif_pos n.isLt]
  pointwise [k0_pay3, k0_pay2]

theorem pay4_apply (h : Fin 8) (n : Fin 2048) : k0_pay4 x0 x1 (ix2 h n) = logSig (fgG x0 x1 h n.val) := by
  unfold fgG gate logSig
  rw [dif_pos n.isLt]
  pointwise [k0_pay4, k0_pay2]
  simp only [zero_sub, ne_eq, not_true_eq_false, if_false]

theorem pay6_apply (h : Fin 8) (n : Fin 2048) :
    k0_pay6 (k0_pay4 x0 x1) k0_pay5 1#32 (ix2 h n) = bcum (fgG x0 x1 h) n.val :=
  sums _ (fun h p => logSig (fgG x0 x1 h p)) (pay4_apply x0 x1) h n

theorem pay7_apply (h : Fin 8) (n : Fin 2048) :
    k0_pay7 (k0_pay3 x0 x1) (k0_pay4 x0 x1) k0_pay5 1#32 (ix2 h n) = rent (inG x0 x1 h) (fgG x0 x1 h) n.val := by
  have e : k0_pay7 (k0_pay3 x0 x1) (k0_pay4 x0 x1) k0_pay5 1#32 (ix2 h n)
      = k0_pay3 x0 x1 (ix2 h n) - k0_pay6 (k0_pay4 x0 x1) k0_pay5 1#32 (ix2 h n) := rfl
  rw [e, pay3_apply, pay6_apply]
  rfl

theorem out2_eq : out0_2 x0 x1 = k0_pay7 (k0_pay3 x0 x1) (k0_pay4 x0 x1) k0_pay5 1#32 := by
  have hz : (![0, 0] : Fin 2 → Nat) = fun _ => 0 := funext fun a => by fin_cases a <;> rfl
  unfold_out out0_2
  rw [View.canon_unit_zero hz, View.ld_unit_zero hz, View.ld_unit_zero hz]

/-- The kernel's first block: the decay's entries. -/
theorem out2_apply (h : Fin 8) (n : Fin 2048) : out0_2 x0 x1 (ix2 h n) = rent (inG x0 x1 h) (fgG x0 x1 h) n.val := by
  rw [out2_eq]
  exact pay7_apply x0 x1 h n

theorem pay1_apply (X Z : FVec Ideal S8x2048 .f32) (n : Fin 2048) (d : Fin 128) :
    k0_pay1 X Z (ix2 n d) = layB Z X ⟨d.val / 8, by omega⟩ (ix2 (⟨d.val % 8, Nat.mod_lt _ (by decide)⟩ : Fin 8) n) := by
  refine Eq.trans ?_ (stacked (layB Z X) concatenates_S8x2048_S8x2048_S8x2048_S8x2048_S8x2048_S8x2048_S8x2048_S8x2048_S8x2048_S8x2048_S8x2048_S8x2048_S8x2048_S8x2048_S8x2048_S8x2048_S128x2048_d0 d n)
  unfold k0_pay1
  refine transpose_apply [1, 0] _ transposes_S128x2048_p1_0_S2048x128 (ix2 n d) (ix2 d n) (fun b => match b with
    | ⟨0, _⟩ => rfl
    | ⟨1, _⟩ => rfl)

theorem pay11_apply (R : FVec Ideal S8x2048 .f32) (n : Fin 2048) (d : Fin 128) :
    k0_pay11 k0_pay5 R (k0_pay8 k0_pay5) (dynamicRotate 1 1#32 none R rotates_S8x2048_d1) ⊥ (ix2 n d)
      = layA (k0_pay10 (F := Ideal)) R (turn max ⊥ 32 (turn max ⊥ 16 (turn max ⊥ 8 (turn max ⊥ 4 (turn max ⊥ 2 (turn max ⊥ 1 R))))))
          ⟨d.val / 8, by omega⟩ (ix2 (⟨d.val % 8, Nat.mod_lt _ (by decide)⟩ : Fin 8) n) := by
  refine Eq.trans ?_ (stacked (layA (k0_pay10 (F := Ideal)) R (turn max ⊥ 32 (turn max ⊥ 16 (turn max ⊥ 8 (turn max ⊥ 4 (turn max ⊥ 2 (turn max ⊥ 1 R))))))) concatenates_S8x2048_S8x2048_S8x2048_S8x2048_S8x2048_S8x2048_S8x2048_S8x2048_S8x2048_S8x2048_S8x2048_S8x2048_S8x2048_S8x2048_S8x2048_S8x2048_S128x2048_d0 d n)
  rw [← least]
  unfold k0_pay11
  refine transpose_apply [1, 0] _ transposes_S128x2048_p1_0_S2048x128 (ix2 n d) (ix2 d n) (fun b => match b with
    | ⟨0, _⟩ => rfl
    | ⟨1, _⟩ => rfl)

theorem zero_apply (i : S8x2048.Idx) : k0_pay10 (F := Ideal) i = 0 := by
  pointwise [k0_pay10]

/-- The kernel's second block: the columns of the entries and their maxima. -/
theorem out3_apply (n : Fin 2048) (d : Fin 128) (h : Fin 8) (hh : h.val = d.val % 8) :
    out0_3 x0 x1 (ix2 n d) = layA 0 (rent (inG x0 x1 h) (fgG x0 x1 h) n.val) (cmax (inG x0 x1 h) (fgG x0 x1 h) n.val) ⟨d.val / 8, by omega⟩ := by
  have e : out0_3 x0 x1 = k0_pay11 k0_pay5 (k0_pay7 (k0_pay3 x0 x1) (k0_pay4 x0 x1) k0_pay5 1#32) (k0_pay8 k0_pay5)
      (k0_pay9 (k0_pay3 x0 x1) (k0_pay4 x0 x1) k0_pay5 1#32) (Scalar.ofBits .f32 0xFF800000#32) := by
    have hz : (![0, 0] : Fin 2 → Nat) = fun _ => 0 := funext fun a => by fin_cases a <;> rfl
    unfold_out out0_3
    rw [View.canon_unit_zero hz, View.ld_unit_zero hz, View.ld_unit_zero hz]
  have hb : (Scalar.ofBits .f32 0xFF800000#32 : Ideal .f32) = (⊥ : EReal) := least
  obtain rfl : h = ⟨d.val % 8, Nat.mod_lt _ (by decide)⟩ := Fin.ext hh
  rw [e, hb]
  refine (pay11_apply _ n d).trans ?_
  rw [layA_apply, zero_apply, pay7_apply, maxima _ _ (pay7_apply x0 x1)]
  rfl

/-- The kernel's third block: the columns of the running sums. -/
theorem out4_apply (n : Fin 2048) (d : Fin 128) (h : Fin 8) (hh : h.val = d.val % 8) :
    out0_4 x0 x1 (ix2 n d) = layB 0 (bcum (fgG x0 x1 h) n.val) ⟨d.val / 8, by omega⟩ := by
  have e : out0_4 x0 x1 = k0_pay1 (k0_pay6 (k0_pay4 x0 x1) k0_pay5 1#32) (k0_pay10 (F := Ideal)) := by
    have hz : (![0, 0] : Fin 2 → Nat) = fun _ => 0 := funext fun a => by fin_cases a <;> rfl
    unfold_out out0_4
    rw [View.canon_unit_zero hz, View.ld_unit_zero hz, View.ld_unit_zero hz]
  obtain rfl : h = ⟨d.val % 8, Nat.mod_lt _ (by decide)⟩ := Fin.ext hh
  rw [e]
  refine (pay1_apply _ _ n d).trans ?_
  rw [layB_apply, zero_apply, pay6_apply]

end Cert.Gates
-- ==== Proof.GatesRef.lean ====
/-
  The reference's scan of the gates, at an entry: its window sums and window maxima over a chunk are the running folds.
-/
module

public import proofs.«01_k».proof.Proof.Gen.Reference5Ideal.Read
public import proofs.«01_k».proof.Proof.GatesBlock

@[expose] public section

noncomputable section

namespace Cert.Gates

open Cert.Running Cert.Reference5Ideal Cert.Reference5Ideal.Gen Cert.Reference5Ideal.Read Idealize.ShloMosaic Idealize.ShloMosaic.TcCoe Idealize.SL.Sem

/-- A window of 64 entries ending at its own, folded: the running fold of the row. -/
theorem window_apply {A B : ℕ} {u : Shape} (op : EReal → EReal → EReal) (e : EReal) (he : ∀ a, op a e = a) (x : (⟨3, ![A, B, 64]⟩ : Shape).Idx → EReal) (init : u.Idx → EReal)
    (hinit : ∀ i, init i = e) (h : (⟨3, ![A, B, 64]⟩ : Shape).ReduceWindows ![1, 1, 64] ![1, 1, 1] ![0, 0, 63] ![0, 0, 0] ⟨3, ![A, B, 64]⟩) (hu : 0 < u.numel)
    (a : Fin A) (b : Fin B) (j : Fin 64) (f : ℕ → EReal) (hf : ∀ p : Fin 64, x (ix3 a b p) = f p.val) :
    Host.reduceWindow op ![1, 1, 64] ![1, 1, 1] ![0, 0, 63] ![0, 0, 0] x init h hu (ix3 a b j) = seg op e f 0 (j.val + 1) := by
  have hj := j.isLt
  unfold Host.reduceWindow
  dsimp only
  rw [hinit]
  refine Eq.trans ?_ (fold_window op e he f (63 - j.val) (j.val + 1) (fun i => if 63 ≤ j.val + i then f (j.val + i - 63) else e)
    (fun i hi => if_neg (by omega)) (fun i hi => (if_pos (by omega)).trans (congrArg f (by omega))))
  rw [show 63 - j.val + (j.val + 1) = 64 by omega]
  have hn : (⟨3, ![1, 1, 64]⟩ : Shape).numel = 64 := by decide
  rw [← foldl_finRange _ 64 hn]
  refine List.foldl_ext _ _ _ (fun r n _ => congrArg (op r) ?_)
  have hq : n.val = (((((⟨3, ![1, 1, 64]⟩ : Shape).rowMajor.symm n (0 : Fin 3)).val * 1 + ((⟨3, ![1, 1, 64]⟩ : Shape).rowMajor.symm n (1 : Fin 3)).val) * 64) + ((⟨3, ![1, 1, 64]⟩ : Shape).rowMajor.symm n (2 : Fin 3)).val) := by
    have := Shape.rowMajor_val_three (d := ![1, 1, 64]) ((⟨3, ![1, 1, 64]⟩ : Shape).rowMajor.symm n)
    rw [Equiv.apply_symm_apply] at this
    exact this
  have q0 : ((⟨3, ![1, 1, 64]⟩ : Shape).rowMajor.symm n (0 : Fin 3)).val < 1 := ((⟨3, ![1, 1, 64]⟩ : Shape).rowMajor.symm n (0 : Fin 3)).isLt
  have q1 : ((⟨3, ![1, 1, 64]⟩ : Shape).rowMajor.symm n (1 : Fin 3)).val < 1 := ((⟨3, ![1, 1, 64]⟩ : Shape).rowMajor.symm n (1 : Fin 3)).isLt
  have q2 : ((⟨3, ![1, 1, 64]⟩ : Shape).rowMajor.symm n (2 : Fin 3)).val < 64 := ((⟨3, ![1, 1, 64]⟩ : Shape).rowMajor.symm n (2 : Fin 3)).isLt
  by_cases hle : 63 ≤ j.val + n.val
  · rw [if_pos hle]
    rw [dif_pos (fun d => by
      match d with
      | ⟨0, _⟩ => show 0 ≤ a.val * 1 + ((⟨3, ![1, 1, 64]⟩ : Shape).rowMajor.symm n (0 : Fin 3)).val ∧ a.val * 1 + ((⟨3, ![1, 1, 64]⟩ : Shape).rowMajor.symm n (0 : Fin 3)).val - 0 < A; have := a.isLt; omega
      | ⟨1, _⟩ => show 0 ≤ b.val * 1 + ((⟨3, ![1, 1, 64]⟩ : Shape).rowMajor.symm n (1 : Fin 3)).val ∧ b.val * 1 + ((⟨3, ![1, 1, 64]⟩ : Shape).rowMajor.symm n (1 : Fin 3)).val - 0 < B; have := b.isLt; omega
      | ⟨2, _⟩ => show 63 ≤ j.val * 1 + ((⟨3, ![1, 1, 64]⟩ : Shape).rowMajor.symm n (2 : Fin 3)).val ∧ j.val * 1 + ((⟨3, ![1, 1, 64]⟩ : Shape).rowMajor.symm n (2 : Fin 3)).val - 63 < 64; omega)]
    rw [← hf ⟨j.val + n.val - 63, by omega⟩]
    congr 1
    funext d
    apply Fin.ext
    match d with
    | ⟨0, _⟩ => show a.val * 1 + ((⟨3, ![1, 1, 64]⟩ : Shape).rowMajor.symm n (0 : Fin 3)).val - 0 = a.val; omega
    | ⟨1, _⟩ => show b.val * 1 + ((⟨3, ![1, 1, 64]⟩ : Shape).rowMajor.symm n (1 : Fin 3)).val - 0 = b.val; omega
    | ⟨2, _⟩ => show j.val * 1 + ((⟨3, ![1, 1, 64]⟩ : Shape).rowMajor.symm n (2 : Fin 3)).val - 63 = j.val + n.val - 63; omega
  · rw [if_neg hle, dif_neg]
    intro hall
    have := (hall (2 : Fin 3)).1
    have h2 : 63 ≤ j.val * 1 + ((⟨3, ![1, 1, 64]⟩ : Shape).rowMajor.symm n (2 : Fin 3)).val := this
    omega

variable (x0 : Vec Ideal S32768x128 .f32) (x1 : Vec Ideal S1x16 .f32)

/-- A gate: column `g` of each token with its bias (zero past the end). -/
def gateR (g : Fin 16) (n : ℕ) : EReal := if hn : n < 32768 then x0 (ix2 ⟨n, hn⟩ (⟨g.val, by omega⟩ : Fin 128)) + x1 (ix2 0 g) else 0

/-- The input gates of a head, and its forget gates. -/
def inR (h : Fin 8) : ℕ → EReal := gateR x0 x1 ⟨h.val, by omega⟩
def fgR (h : Fin 8) : ℕ → EReal := gateR x0 x1 ⟨8 + h.val, by omega⟩

theorem v5_apply (n : Fin 32768) (h : Fin 8) : val_main_v5 (F := Ideal) x0 x1 (ix2 n h) = inR x0 x1 h n.val := by
  unfold inR gateR
  rw [dif_pos n.isLt]
  pointwise [val_main_v5, val_main_v4, val_main_v0, val_main_v1, val_main_v2, val_main_v3]
  try rfl

theorem v9_apply (a : Fin 512) (h : Fin 8) (p : Fin 64) : val_main_v9 (F := Ideal) x0 x1 (ix3 a h p) = inR x0 x1 h (64 * a.val + p.val) := by
  rw [← v5_apply x0 x1 ⟨64 * a.val + p.val, by omega⟩]
  rw [val_main_v9_apply, val_main_v8_apply]
  congr 1
  funext d
  apply Fin.ext
  match d with
  | ⟨0, _⟩ => show ((a.val * 64 + p.val) * 8 + h.val) / 8 = 64 * a.val + p.val; omega
  | ⟨1, _⟩ => show ((a.val * 64 + p.val) * 8 + h.val) % 8 = h.val; omega

theorem v7_apply (n : Fin 32768) (h : Fin 8) : val_main_v7 (F := Ideal) x0 x1 (ix2 n h) = logSig (fgR x0 x1 h n.val) := by
  unfold fgR gateR logSig
  rw [dif_pos n.isLt]
  pointwise [val_main_v7, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst, val_main_v6, val_main_v4, val_main_v0, val_main_v1, val_main_v2, val_main_v3]
  try simp only [zero_sub, ne_eq, not_true_eq_false, if_false]
  try rfl

theorem v11_apply (a : Fin 512) (h : Fin 8) (p : Fin 64) : val_main_v11 (F := Ideal) x0 x1 (ix3 a h p) = logSig (fgR x0 x1 h (64 * a.val + p.val)) := by
  rw [← v7_apply x0 x1 ⟨64 * a.val + p.val, by omega⟩]
  rw [val_main_v11_apply, val_main_v10_apply]
  congr 1
  funext d
  apply Fin.ext
  match d with
  | ⟨0, _⟩ => show ((a.val * 64 + p.val) * 8 + h.val) / 8 = 64 * a.val + p.val; omega
  | ⟨1, _⟩ => show ((a.val * 64 + p.val) * 8 + h.val) % 8 = h.val; omega

theorem v12_apply (a : Fin 512) (h : Fin 8) (p : Fin 64) : val_main_v12 (F := Ideal) x0 x1 (ix3 a h p) = bcum (fgR x0 x1 h) (64 * a.val + p.val) := by
  have e : val_main_v12 (F := Ideal) x0 x1 = Host.reduceWindow (· + ·) ![1, 1, 64] ![1, 1, 1] ![0, 0, 63] ![0, 0, 0] (val_main_v11 (F := Ideal) x0 x1)
      (fun _ : S_.Idx => (val_main_call1_call0_v0 (F := Ideal)) (Shape.Idx.first h_S_)) reduceWindows_S512x8x64_S512x8x64_w1s1p0_0_w1s1p0_0_w64s1p63_0 h_S_ := rfl
  rw [e]
  have hz : (val_main_call1_call0_v0 (F := Ideal)) (Shape.Idx.first h_S_) = (0 : EReal) := by
    rw [val_main_call1_call0_v0_apply, val_main_call1_call0_cst_apply]
    exact Ideal.ofBits_zero_f32
  unfold bcum
  rw [show (64 * a.val + p.val) / 64 = a.val by omega, show (64 * a.val + p.val) % 64 = p.val by omega]
  exact window_apply (u := S_) (· + ·) 0 add_zero (val_main_v11 (F := Ideal) x0 x1) _ (fun _ => hz) reduceWindows_S512x8x64_S512x8x64_w1s1p0_0_w1s1p0_0_w64s1p63_0 h_S_ a h p
    (fun q => logSig (fgR x0 x1 h (64 * a.val + q))) (v11_apply x0 x1 a h)

theorem v13_apply (a : Fin 512) (h : Fin 8) (p : Fin 64) : val_main_v13 (F := Ideal) x0 x1 (ix3 a h p) = rent (inR x0 x1 h) (fgR x0 x1 h) (64 * a.val + p.val) := by
  rw [val_main_v13_apply, v9_apply, v12_apply]
  rfl

theorem v14_apply (a : Fin 512) (h : Fin 8) (p : Fin 64) : val_main_v14 (F := Ideal) x0 x1 (ix3 a h p) = cmax (inR x0 x1 h) (fgR x0 x1 h) (64 * a.val + p.val) := by
  have hz : ∀ i, (val_main_call2_v0 (F := Ideal)) i = (⊥ : EReal) := fun i => by
    rw [val_main_call2_v0_apply, val_main_call2_cst_apply]
    exact least
  unfold cmax
  rw [show (64 * a.val + p.val) / 64 = a.val by omega, show (64 * a.val + p.val) % 64 = p.val by omega]
  exact window_apply (u := S_) max ⊥ (fun x => max_eq_left bot_le) (val_main_v13 (F := Ideal) x0 x1) _ hz reduceWindows_S512x8x64_S512x8x64_w1s1p0_0_w1s1p0_0_w64s1p63_0 h_S_ a h p
    (fun q => rent (inR x0 x1 h) (fgR x0 x1 h) (64 * a.val + q)) (v13_apply x0 x1 a h)

/-- A row of chunks laid out along the tokens. -/
theorem rows_idx (h : Fin 8) (n : Fin 32768) : idx_main_v15 (idx_main_v16 (ix2 h n))
    = ix3 (⟨n.val / 64, by omega⟩ : Fin 512) h (⟨n.val % 64, Nat.mod_lt _ (by decide)⟩ : Fin 64) := by
  funext d
  apply Fin.ext
  match d with
  | ⟨0, _⟩ => show (h.val * 32768 + n.val) / 64 % 512 = n.val / 64; omega
  | ⟨1, _⟩ => show (h.val * 32768 + n.val) / 32768 = h.val; omega
  | ⟨2, _⟩ => show (h.val * 32768 + n.val) % 64 = n.val % 64; omega

theorem v16_apply (h : Fin 8) (n : Fin 32768) : val_main_v16 (F := Ideal) x0 x1 (ix2 h n) = rent (inR x0 x1 h) (fgR x0 x1 h) n.val := by
  rw [val_main_v16_apply, val_main_v15_apply]
  refine (congrArg (val_main_v13 (F := Ideal) x0 x1) (rows_idx h n)).trans ?_
  rw [v13_apply]
  dsimp only
  rw [Nat.div_add_mod]

theorem v18_apply (h : Fin 8) (n : Fin 32768) : val_main_v18 (F := Ideal) x0 x1 (ix2 h n) = cmax (inR x0 x1 h) (fgR x0 x1 h) n.val := by
  rw [val_main_v18_apply, val_main_v17_apply]
  refine (congrArg (val_main_v14 (F := Ideal) x0 x1) (rows_idx h n)).trans ?_
  rw [v14_apply]
  dsimp only
  rw [Nat.div_add_mod]

theorem v20_apply (h : Fin 8) (n : Fin 32768) : val_main_v20 (F := Ideal) x0 x1 (ix2 h n) = bcum (fgR x0 x1 h) n.val := by
  rw [val_main_v20_apply, val_main_v19_apply]
  refine (congrArg (val_main_v12 (F := Ideal) x0 x1) (rows_idx h n)).trans ?_
  rw [v12_apply]
  dsimp only
  rw [Nat.div_add_mod]

theorem v21_apply (i : S8x32768.Idx) : val_main_v21 (F := Ideal) i = 0 := by
  rw [val_main_v21_apply, val_main_cst_apply]
  exact Ideal.ofBits_zero_f32

/-- A group of 32 lanes: four arrays of eight rows, one under another. -/
theorem group_apply {W : ℕ} (z a b : (⟨2, ![8, W]⟩ : Shape).Idx → EReal)
    (h : Shape.Concatenates [(⟨2, ![8, W]⟩ : Shape), ⟨2, ![8, W]⟩, ⟨2, ![8, W]⟩, ⟨2, ![8, W]⟩] (⟨2, ![32, W]⟩ : Shape) 0) (g : Fin 4) (l : Fin 8) (n : Fin W) (d : Fin 32) (hd : d.val = 8 * g.val + l.val) :
    concatenate (⟨2, ![32, W]⟩ : Shape) 0 [⟨⟨2, ![8, W]⟩, z⟩, ⟨⟨2, ![8, W]⟩, a⟩, ⟨⟨2, ![8, W]⟩, b⟩, ⟨⟨2, ![8, W]⟩, b⟩] h (ix2 d n)
      = (![z, a, b, b] : Fin 4 → _) g (ix2 l n) := by
  refine concatenate_ofFn_apply (N := 4) (t := (⟨2, ![32, W]⟩ : Shape)) (s₁ := (⟨2, ![8, W]⟩ : Shape)) (0 : Fin 2) ![z, a, b, b] h rfl 8 rfl (ix2 d n : (⟨2, ![32, W]⟩ : Shape).Idx) g
    (by show d.val / 8 = g.val; omega) (ix2 l n) (by show l.val = d.val % 8; omega) (fun b hb => ?_)
  match b with
  | ⟨0, _⟩ => exact absurd rfl hb
  | ⟨1, _⟩ => rfl

/-- All 128 lanes: three groups of 32, and four arrays of eight rows under them. -/
theorem lanes_apply {W : ℕ} (z a b : (⟨2, ![8, W]⟩ : Shape).Idx → EReal) (G : (⟨2, ![32, W]⟩ : Shape).Idx → EReal)
    (hG : ∀ (g : Fin 4) (l : Fin 8) (n : Fin W) (d : Fin 32), d.val = 8 * g.val + l.val → G (ix2 d n) = (![z, a, b, b] : Fin 4 → _) g (ix2 l n))
    (h : Shape.Concatenates [(⟨2, ![32, W]⟩ : Shape), ⟨2, ![32, W]⟩, ⟨2, ![32, W]⟩, ⟨2, ![8, W]⟩, ⟨2, ![8, W]⟩, ⟨2, ![8, W]⟩, ⟨2, ![8, W]⟩] (⟨2, ![128, W]⟩ : Shape) 0)
    (g : Fin 16) (l : Fin 8) (n : Fin W) (d : Fin 128) (hd : d.val = 8 * g.val + l.val) :
    concatenate (⟨2, ![128, W]⟩ : Shape) 0 [⟨⟨2, ![32, W]⟩, G⟩, ⟨⟨2, ![32, W]⟩, G⟩, ⟨⟨2, ![32, W]⟩, G⟩, ⟨⟨2, ![8, W]⟩, b⟩, ⟨⟨2, ![8, W]⟩, z⟩, ⟨⟨2, ![8, W]⟩, z⟩, ⟨⟨2, ![8, W]⟩, z⟩] h (ix2 d n)
      = layA z a b g (ix2 l n) := by
  have hl := l.isLt
  have hoff : ∀ {R : ℕ} (r : Fin R) (q : Fin 2), q ≠ 0 → ((ix2 r n : (⟨2, ![R, W]⟩ : Shape).Idx) q).val = ((ix2 d n : (⟨2, ![128, W]⟩ : Shape).Idx) q).val := fun r q hq => by
    match q with
    | ⟨0, _⟩ => exact absurd rfl hq
    | ⟨1, _⟩ => rfl
  have small : ∀ (k : ℕ) (hk : k < 7) (x : (⟨2, ![8, W]⟩ : Shape).Idx → EReal) (pre : ℕ) (hxk : _) (hpre : _) (_ : pre + l.val = d.val), _ := fun k hk x pre hxk hpre he =>
    concatenate_apply_piece (t := (⟨2, ![128, W]⟩ : Shape)) (0 : Fin 2) [⟨⟨2, ![32, W]⟩, G⟩, ⟨⟨2, ![32, W]⟩, G⟩, ⟨⟨2, ![32, W]⟩, G⟩, ⟨⟨2, ![8, W]⟩, b⟩, ⟨⟨2, ![8, W]⟩, z⟩, ⟨⟨2, ![8, W]⟩, z⟩, ⟨⟨2, ![8, W]⟩, z⟩] h
      (ix2 d n : (⟨2, ![128, W]⟩ : Shape).Idx) k hk ⟨2, ![8, W]⟩ x hxk rfl pre hpre (ix2 l n) (fun q hq => hoff l q hq) he
  have big : ∀ (k : ℕ) (hk : k < 7) (u : Fin 4) (pre : ℕ) (hxk : _) (hpre : _) (_ : pre + (8 * u.val + l.val) = d.val), _ := fun k hk u pre hxk hpre he =>
    (concatenate_apply_piece (t := (⟨2, ![128, W]⟩ : Shape)) (0 : Fin 2) [⟨⟨2, ![32, W]⟩, G⟩, ⟨⟨2, ![32, W]⟩, G⟩, ⟨⟨2, ![32, W]⟩, G⟩, ⟨⟨2, ![8, W]⟩, b⟩, ⟨⟨2, ![8, W]⟩, z⟩, ⟨⟨2, ![8, W]⟩, z⟩, ⟨⟨2, ![8, W]⟩, z⟩] h
      (ix2 d n : (⟨2, ![128, W]⟩ : Shape).Idx) k hk ⟨2, ![32, W]⟩ G hxk rfl pre hpre (ix2 (⟨8 * u.val + l.val, by have := u.isLt; omega⟩ : Fin 32) n) (fun q hq => hoff _ q hq) he).trans (hG u l n _ rfl)
  match g, hd with
  | ⟨0, _⟩, hd => exact big 0 (by decide) 0 0 rfl rfl (by dsimp only at hd ⊢; simp; omega)
  | ⟨1, _⟩, hd => exact big 0 (by decide) 1 0 rfl rfl (by dsimp only at hd ⊢; simp; omega)
  | ⟨2, _⟩, hd => exact big 0 (by decide) 2 0 rfl rfl (by dsimp only at hd ⊢; simp; omega)
  | ⟨3, _⟩, hd => exact big 0 (by decide) 3 0 rfl rfl (by dsimp only at hd ⊢; simp; omega)
  | ⟨4, _⟩, hd => exact big 1 (by decide) 0 32 rfl rfl (by dsimp only at hd ⊢; simp; omega)
  | ⟨5, _⟩, hd => exact big 1 (by decide) 1 32 rfl rfl (by dsimp only at hd ⊢; simp; omega)
  | ⟨6, _⟩, hd => exact big 1 (by decide) 2 32 rfl rfl (by dsimp only at hd ⊢; simp; omega)
  | ⟨7, _⟩, hd => exact big 1 (by decide) 3 32 rfl rfl (by dsimp only at hd ⊢; simp; omega)
  | ⟨8, _⟩, hd => exact big 2 (by decide) 0 64 rfl rfl (by dsimp only at hd ⊢; simp; omega)
  | ⟨9, _⟩, hd => exact big 2 (by decide) 1 64 rfl rfl (by dsimp only at hd ⊢; simp; omega)
  | ⟨10, _⟩, hd => exact big 2 (by decide) 2 64 rfl rfl (by dsimp only at hd ⊢; simp; omega)
  | ⟨11, _⟩, hd => exact big 2 (by decide) 3 64 rfl rfl (by dsimp only at hd ⊢; simp; omega)
  | ⟨12, _⟩, hd => exact small 3 (by decide) b 96 rfl rfl (by dsimp only at hd ⊢; omega)
  | ⟨13, _⟩, hd => exact small 4 (by decide) z 104 rfl rfl (by dsimp only at hd ⊢; omega)
  | ⟨14, _⟩, hd => exact small 5 (by decide) z 112 rfl rfl (by dsimp only at hd ⊢; omega)
  | ⟨15, _⟩, hd => exact small 6 (by decide) z 120 rfl rfl (by dsimp only at hd ⊢; omega)
  | ⟨k + 16, hk⟩, _ => exact absurd hk (by omega)

/-- The reference's second result. -/
theorem v24_apply (n : Fin 32768) (d : Fin 128) (h : Fin 8) (hh : h.val = d.val % 8) :
    val_main_v24 (F := Ideal) x0 x1 (ix2 n d) = layA 0 (rent (inR x0 x1 h) (fgR x0 x1 h) n.val) (cmax (inR x0 x1 h) (fgR x0 x1 h) n.val) ⟨d.val / 8, by omega⟩ := by
  refine (transpose_apply [1, 0] _ transposes_S128x32768_S32768x128_1_0 (ix2 n d) (ix2 d n) (fun b => match b with
    | ⟨0, _⟩ => rfl
    | ⟨1, _⟩ => rfl)).trans ?_
  refine (lanes_apply _ _ _ _ (group_apply _ _ _ concatenates_S8x32768_S8x32768_S8x32768_S8x32768_S32x32768_d0) _ ⟨d.val / 8, by omega⟩ h n d (by dsimp only; omega)).trans ?_
  rw [layA_apply, v21_apply, v16_apply, v18_apply]

/-- The reference's third result. -/
theorem v27_apply (n : Fin 32768) (d : Fin 128) (h : Fin 8) (hh : h.val = d.val % 8) :
    val_main_v27 (F := Ideal) x0 x1 (ix2 n d) = layB 0 (bcum (fgR x0 x1 h) n.val) ⟨d.val / 8, by omega⟩ := by
  refine (transpose_apply [1, 0] _ transposes_S128x32768_S32768x128_1_0 (ix2 n d) (ix2 d n) (fun b => match b with
    | ⟨0, _⟩ => rfl
    | ⟨1, _⟩ => rfl)).trans ?_
  refine (lanes_apply _ _ _ _ (group_apply _ _ _ concatenates_S8x32768_S8x32768_S8x32768_S8x32768_S32x32768_d0) _ ⟨d.val / 8, by omega⟩ h n d (by dsimp only; omega)).trans ?_
  rw [layA_apply, v21_apply, v20_apply]
  rfl

end Cert.Gates

end
-- ==== Proof.GatesValue.lean ====
/-
  The gates' scan: the blocks the kernel leaves are the reference's results, entry by entry.
-/
module

public import proofs.«01_k».proof.Proof.GatesRef

@[expose] public section

noncomputable section

namespace Cert.Gates

open Cert.Running Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ) (c : Dev nD)

/-- The bias as a column. -/
theorem V_v1 (g : Fin 16) : V m c main_v1 (ix2 g 0) = m ((c : Thread nD τ).loc main_arg1) (ix2 0 g) := by
  show StableHlo.after (List.flatten [hostOps0]) (fun b => m (c, b)) (Proc.devRef .tc main_v1) (ix2 g 0) = _
  simp only [List.flatten_cons, List.flatten_nil, List.append_nil, List.cons_append, List.nil_append, hostOps0]
  after_results
  pointwise
  try rfl

theorem index_0 : ∀ t : Fin cfg0.N, win0_0.index t (0 : Fin 2) = t.val ∧ win0_0.index t (1 : Fin 2) = 0 :=
  (by decide +kernel : ∀ t : Fin grid0.N, _)

theorem index_1 : ∀ t : Fin cfg0.N, win0_1.index t (0 : Fin 2) = 0 ∧ win0_1.index t (1 : Fin 2) = 0 :=
  (by decide +kernel : ∀ t : Fin grid0.N, _)

theorem index_2 : ∀ t : Fin cfg0.N, win0_2.index t (0 : Fin 2) = 0 ∧ win0_2.index t (1 : Fin 2) = t.val ∧ win0_2.flush t = true :=
  (by decide +kernel : ∀ t : Fin grid0.N, _)

theorem index_3 : ∀ t : Fin cfg0.N, win0_3.index t (0 : Fin 2) = t.val ∧ win0_3.index t (1 : Fin 2) = 0 ∧ win0_3.flush t = true :=
  (by decide +kernel : ∀ t : Fin grid0.N, _)

theorem index_4 : ∀ t : Fin cfg0.N, win0_4.index t (0 : Fin 2) = t.val ∧ win0_4.index t (1 : Fin 2) = 0 ∧ win0_4.flush t = true :=
  (by decide +kernel : ∀ t : Fin grid0.N, _)

/-- The gates' block. -/
theorem blk_0 (t : Fin cfg0.N) (i : Fin 2048) (j : Fin 128) (n : Fin 32768) (hn : n.val = 2048 * t.val + i.val) :
    (iblk m c 0 t : Vec Ideal S2048x128 .f32) (ix2 i j) = m ((c : Thread nD τ).loc main_arg0) (ix2 n j) := by
  obtain ⟨h0, h1⟩ := index_0 t
  refine Eq.trans ?_ (congrFun (V_main_arg0 m c) (ix2 n j))
  unfold iblk
  show V m c main_arg0 _ = V m c main_arg0 _
  congr 1
  funext a
  apply Fin.ext
  match a with
  | ⟨0, _⟩ => show win0_0.index t (0 : Fin 2) * 2048 + 1 * i.val = n.val; omega
  | ⟨1, _⟩ => show win0_0.index t (1 : Fin 2) * 128 + 1 * j.val = j.val; omega

/-- The bias's block. -/
theorem blk_1 (t : Fin cfg0.N) (g : Fin 16) :
    (iblk m c 1 t : Vec Ideal S16x1 .f32) (ix2 g 0) = m ((c : Thread nD τ).loc main_arg1) (ix2 0 g) := by
  obtain ⟨h0, h1⟩ := index_1 t
  refine Eq.trans ?_ (V_v1 m c g)
  unfold iblk
  show V m c main_v1 _ = V m c main_v1 _
  congr 1
  funext a
  apply Fin.ext
  match a with
  | ⟨0, _⟩ => show win0_1.index t (0 : Fin 2) * 16 + 1 * g.val = g.val; omega
  | ⟨1, _⟩ => show win0_1.index t (1 : Fin 2) * 1 + 1 * 0 = 0; omega

/-- A gate of a block is the array's, 2048 tokens a block. -/
theorem gate_blk (t : Fin cfg0.N) (g : Fin 16) (q : ℕ) (hq : q < 64 * 32) :
    gate (iblk m c 0 t) (iblk m c 1 t) g q = gateR (m ((c : Thread nD τ).loc main_arg0)) (m ((c : Thread nD τ).loc main_arg1)) g (64 * (32 * t.val) + q) := by
  have ht : t.val < 16 := lt_of_lt_of_eq t.isLt N_0
  unfold gate gateR
  rw [dif_pos (by omega), dif_pos (by omega), blk_0 m c t _ _ ⟨64 * (32 * t.val) + q, by omega⟩ (by dsimp only; omega), blk_1]

abbrev inM (h : Fin 8) : ℕ → EReal := inR (m ((c : Thread nD τ).loc main_arg0)) (m ((c : Thread nD τ).loc main_arg1)) h
abbrev fgM (h : Fin 8) : ℕ → EReal := fgR (m ((c : Thread nD τ).loc main_arg0)) (m ((c : Thread nD τ).loc main_arg1)) h

theorem bcum_blk (t : Fin cfg0.N) (h : Fin 8) (n : Fin 32768) {i : ℕ} (hn : n.val = 2048 * t.val + i) (hi : i < 2048) :
    bcum (fgG (iblk m c 0 t) (iblk m c 1 t) h) i = bcum (fgM m c h) n.val := by
  rw [bcum_shift (fgG (iblk m c 0 t) (iblk m c 1 t) h) (fgM m c h) (32 * t.val) 32 i (fun q hq => gate_blk m c t _ q hq) (by omega)]
  congr 1
  omega

theorem rent_blk (t : Fin cfg0.N) (h : Fin 8) (n : Fin 32768) {i : ℕ} (hn : n.val = 2048 * t.val + i) (hi : i < 2048) :
    rent (inG (iblk m c 0 t) (iblk m c 1 t) h) (fgG (iblk m c 0 t) (iblk m c 1 t) h) i = rent (inM m c h) (fgM m c h) n.val := by
  rw [rent_shift (inG (iblk m c 0 t) (iblk m c 1 t) h) (inM m c h) (fgG (iblk m c 0 t) (iblk m c 1 t) h) (fgM m c h) (32 * t.val) 32 i (fun q hq => gate_blk m c t _ q hq) (fun q hq => gate_blk m c t _ q hq) (by omega)]
  congr 1
  omega

theorem cmax_blk (t : Fin cfg0.N) (h : Fin 8) (n : Fin 32768) {i : ℕ} (hn : n.val = 2048 * t.val + i) (hi : i < 2048) :
    cmax (inG (iblk m c 0 t) (iblk m c 1 t) h) (fgG (iblk m c 0 t) (iblk m c 1 t) h) i = cmax (inM m c h) (fgM m c h) n.val := by
  rw [cmax_shift (inG (iblk m c 0 t) (iblk m c 1 t) h) (inM m c h) (fgG (iblk m c 0 t) (iblk m c 1 t) h) (fgM m c h) (32 * t.val) 32 i (fun q hq => gate_blk m c t _ q hq) (fun q hq => gate_blk m c t _ q hq) (by omega)]
  congr 1
  omega

/-- THE ROWS OF THE DECAY ARE THE REFERENCE'S, as a function of the launched arguments. -/
theorem value_eq2 : (dats m 0 c).arrAt 2 cfg0.N = Cert.Reference5Ideal.Read.val_main_v16 (F := Ideal)
    (m ((c : Thread nD τ).loc main_arg0)) (m ((c : Thread nD τ).loc main_arg1)) := by
  funext q
  obtain ⟨n, d, rfl⟩ : ∃ (n : Fin 8) (d : Fin 32768), q = ix2 n d := ⟨q 0, q 1, ValueIdx.eq_ix2 q⟩
  have hn := n.isLt
  have hd := d.isLt
  have ht : d.val / 2048 < cfg0.N := by rw [show cfg0.N = 16 from N_0]; omega
  obtain ⟨h0, h1, hf⟩ := index_2 ⟨d.val / 2048, ht⟩
  have hb := congrFun (blocks2 m c ⟨d.val / 2048, ht⟩ hf) (ix2 n (⟨d.val % 2048, Nat.mod_lt _ (by decide)⟩ : Fin 2048))
  rw [flushed2] at hb
  have e : ((cfg0.win 2).blk ⟨d.val / 2048, ht⟩).view.emb (ix2 n (⟨d.val % 2048, Nat.mod_lt _ (by decide)⟩ : Fin 2048)) = ix2 n d := by
    funext a
    apply Fin.ext
    match a with
    | ⟨0, _⟩ => show win0_2.index ⟨d.val / 2048, ht⟩ (0 : Fin 2) * 8 + 1 * n.val = n.val; omega
    | ⟨1, _⟩ => show win0_2.index ⟨d.val / 2048, ht⟩ (1 : Fin 2) * 2048 + 1 * (d.val % 2048) = d.val; rw [h1]; dsimp only; omega
  have e2 := hb.trans (out2_apply _ _ n (⟨d.val % 2048, Nat.mod_lt _ (by decide)⟩ : Fin 2048))
  rw [← e]
  refine e2.trans ?_
  rw [e]
  refine Eq.trans ?_ (Cert.Gates.v16_apply _ _ n d).symm
  rw [rent_blk m c ⟨d.val / 2048, ht⟩ _ d (by dsimp only; omega) (Nat.mod_lt _ (by decide))]

/-- THE COLUMNS OF THE DECAY AND ITS MAXIMA ARE THE REFERENCE'S. -/
theorem value_eq3 : (dats m 0 c).arrAt 3 cfg0.N = Cert.Reference5Ideal.Read.val_main_v24 (F := Ideal)
    (m ((c : Thread nD τ).loc main_arg0)) (m ((c : Thread nD τ).loc main_arg1)) := by
  funext q
  obtain ⟨n, d, rfl⟩ : ∃ (n : Fin 32768) (d : Fin 128), q = ix2 n d := ⟨q 0, q 1, ValueIdx.eq_ix2 q⟩
  have hn := n.isLt
  have hd := d.isLt
  have ht : n.val / 2048 < cfg0.N := by rw [show cfg0.N = 16 from N_0]; omega
  obtain ⟨h0, h1, hf⟩ := index_3 ⟨n.val / 2048, ht⟩
  have hb := congrFun (blocks3 m c ⟨n.val / 2048, ht⟩ hf) (ix2 (⟨n.val % 2048, Nat.mod_lt _ (by decide)⟩ : Fin 2048) d)
  rw [flushed3] at hb
  have e : ((cfg0.win 3).blk ⟨n.val / 2048, ht⟩).view.emb (ix2 (⟨n.val % 2048, Nat.mod_lt _ (by decide)⟩ : Fin 2048) d) = ix2 n d := by
    funext a
    apply Fin.ext
    match a with
    | ⟨0, _⟩ => show win0_3.index ⟨n.val / 2048, ht⟩ (0 : Fin 2) * 2048 + 1 * (n.val % 2048) = n.val; rw [h0]; dsimp only; omega
    | ⟨1, _⟩ => show win0_3.index ⟨n.val / 2048, ht⟩ (1 : Fin 2) * 128 + 1 * d.val = d.val; omega
  have e2 := hb.trans (out3_apply _ _ (⟨n.val % 2048, Nat.mod_lt _ (by decide)⟩ : Fin 2048) d ⟨d.val % 8, Nat.mod_lt _ (by decide)⟩ rfl)
  rw [← e]
  refine e2.trans ?_
  rw [e]
  refine Eq.trans ?_ (Cert.Gates.v24_apply _ _ n d ⟨d.val % 8, Nat.mod_lt _ (by decide)⟩ rfl).symm
  rw [rent_blk m c (⟨n.val / 2048, ht⟩ : Fin cfg0.N) _ n (by dsimp only; omega) (Nat.mod_lt _ (by decide)), cmax_blk m c (⟨n.val / 2048, ht⟩ : Fin cfg0.N) _ n (by dsimp only; omega) (Nat.mod_lt _ (by decide))]

/-- THE COLUMNS OF THE RUNNING SUMS ARE THE REFERENCE'S. -/
theorem value_eq4 : (dats m 0 c).arrAt 4 cfg0.N = Cert.Reference5Ideal.Read.val_main_v27 (F := Ideal)
    (m ((c : Thread nD τ).loc main_arg0)) (m ((c : Thread nD τ).loc main_arg1)) := by
  funext q
  obtain ⟨n, d, rfl⟩ : ∃ (n : Fin 32768) (d : Fin 128), q = ix2 n d := ⟨q 0, q 1, ValueIdx.eq_ix2 q⟩
  have hn := n.isLt
  have hd := d.isLt
  have ht : n.val / 2048 < cfg0.N := by rw [show cfg0.N = 16 from N_0]; omega
  obtain ⟨h0, h1, hf⟩ := index_4 ⟨n.val / 2048, ht⟩
  have hb := congrFun (blocks4 m c ⟨n.val / 2048, ht⟩ hf) (ix2 (⟨n.val % 2048, Nat.mod_lt _ (by decide)⟩ : Fin 2048) d)
  rw [flushed4] at hb
  have e : ((cfg0.win 4).blk ⟨n.val / 2048, ht⟩).view.emb (ix2 (⟨n.val % 2048, Nat.mod_lt _ (by decide)⟩ : Fin 2048) d) = ix2 n d := by
    funext a
    apply Fin.ext
    match a with
    | ⟨0, _⟩ => show win0_4.index ⟨n.val / 2048, ht⟩ (0 : Fin 2) * 2048 + 1 * (n.val % 2048) = n.val; rw [h0]; dsimp only; omega
    | ⟨1, _⟩ => show win0_4.index ⟨n.val / 2048, ht⟩ (1 : Fin 2) * 128 + 1 * d.val = d.val; omega
  have e2 := hb.trans (out4_apply _ _ (⟨n.val % 2048, Nat.mod_lt _ (by decide)⟩ : Fin 2048) d ⟨d.val % 8, Nat.mod_lt _ (by decide)⟩ rfl)
  rw [← e]
  refine e2.trans ?_
  rw [e]
  refine Eq.trans ?_ (Cert.Gates.v27_apply _ _ n d ⟨d.val % 8, Nat.mod_lt _ (by decide)⟩ rfl).symm
  rw [bcum_blk m c (⟨n.val / 2048, ht⟩ : Fin cfg0.N) _ n (by dsimp only; omega) (Nat.mod_lt _ (by decide))]

end Cert.Gates

end
-- ==== Proof.MemoryRun.lean ====
/-
  The matrix memory's kernel: what its body does at a grid point.  The loop's sixteen trips store a block of 64 rows of the
  output each, one head's 128 columns at a time, and carry the memory and its running maximum in two scratch buffers.  What a
  trip stores does not depend on what the output's buffer held, and the trips together store the whole buffer, so what a grid
  point leaves is a function of its blocks and of what the two scratch buffers held.
-/
module

public import proofs.«01_k».proof.Proof.Gen.Kernel6Ideal.Frame.Runs
public import proofs.«01_k».proof.Proof.Gen.Kernel6Ideal.Loops
public import Idealize.ShloMosaic.Lib.Pointwise
public import Idealize.ShloMosaic.Lib.WholeRead
public import Idealize.ShloMosaic.Lib.Tactic

@[expose] public section

set_option maxRecDepth 16384

noncomputable section

namespace Cert.Memory

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The loop makes sixteen trips. -/
theorem trips_eq : k0_t1_loop.trips = 16 := by decide +kernel

/-- Trip `k` stores the rows from `64 k`, head `h` the columns from `128 h`. -/
theorem off3_eq (k : Fin k0_t1_loop.trips) : k0_off3 k = ![64 * k.val, 0] := by
  revert k; decide +kernel
theorem off4_eq (k : Fin k0_t1_loop.trips) : k0_off4 k = ![64 * k.val, 128] := by
  revert k; decide +kernel
theorem off5_eq (k : Fin k0_t1_loop.trips) : k0_off5 k = ![64 * k.val, 256] := by
  revert k; decide +kernel
theorem off6_eq (k : Fin k0_t1_loop.trips) : k0_off6 k = ![64 * k.val, 384] := by
  revert k; decide +kernel
theorem off7_eq (k : Fin k0_t1_loop.trips) : k0_off7 k = ![64 * k.val, 512] := by
  revert k; decide +kernel
theorem off8_eq (k : Fin k0_t1_loop.trips) : k0_off8 k = ![64 * k.val, 640] := by
  revert k; decide +kernel
theorem off9_eq (k : Fin k0_t1_loop.trips) : k0_off9 k = ![64 * k.val, 768] := by
  revert k; decide +kernel
theorem off10_eq (k : Fin k0_t1_loop.trips) : k0_off10 k = ![64 * k.val, 896] := by
  revert k; decide +kernel

section Trip

variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S16x8x64 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x3072 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S8x128x256 .f32) (harg12 : arg12.IsWhole) (arg13 : Memref sig .tc .vmem S1x128 .f32) (harg13 : arg13.IsWhole)
  (x0 : Vec F S1024x1024 .bf16) (x1 : Vec F S1024x1024 .bf16) (x2 : Vec F S1024x1024 .bf16) (x3 : Vec F S1024x1024 .bf16) (x4 : Vec F S16x8x64 .f32) (x5 : Vec F S1024x128 .f32) (x6 : Vec F S1024x128 .f32) (x7 : Vec F S128x3072 .bf16) (x8 : Vec F S1x1024 .f32)

/-- What one trip stores: pieces of the output, of the memory and of the running maximum, at what it finds in the three. -/
def tripOf (k : Fin k0_t1_loop.trips) (f11 : BufTy.Contents (Elt F) arg11.view.ty) (f12 : BufTy.Contents (Elt F) arg12.view.ty) (f13 : BufTy.Contents (Elt F) arg13.view.ty) :
    List (View.Piece (Elt F) S1024x1024 .bf16) × List (View.Piece (Elt F) S8x128x256 .f32) × List (View.Piece (Elt F) S1x128 .f32) :=
  tripL_k0_t1 (F := F) Variants.none c none i arg2 harg2 arg3 harg3 arg4 harg4 arg5 harg5 arg6 harg6 arg7 harg7 arg8 harg8 arg9 harg9 arg10 harg10 arg11 harg11 arg12 harg12 arg13 harg13 k0_pay50 k0_pay51 k0_pay52 k0_pay53 (Scalar.select (Scalar.cmpi .eq 32#32 0#32) 1#32 32#32) k0_pay54 k0_pay55 k0_pay56 (harg2.unread x0) (harg3.unread x1) (harg4.unread x2) (harg5.unread x3) (harg6.unread x4) (harg7.unread x5) (harg8.unread x6) (harg9.unread x7) (harg10.unread x8) k f11 f12 f13

/-- What the first `n` trips store. -/
def pieces (G11 : BufTy.Contents (Elt F) arg11.view.ty) (G12 : BufTy.Contents (Elt F) arg12.view.ty) (G13 : BufTy.Contents (Elt F) arg13.view.ty) (n : ℕ) :
    List (View.Piece (Elt F) S1024x1024 .bf16) × List (View.Piece (Elt F) S8x128x256 .f32) × List (View.Piece (Elt F) S1x128 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 k0_pay50 k0_pay51 k0_pay52 k0_pay53 (Scalar.select (Scalar.cmpi .eq 32#32 0#32) 1#32 32#32) k0_pay54 k0_pay55 k0_pay56 (harg2.unread x0) (harg3.unread x1) (harg4.unread x2) (harg5.unread x3) (harg6.unread x4) (harg7.unread x5) (harg8.unread x6) (harg9.unread x7) (harg10.unread x8) G11 G12 G13 n

/-- A trip does not read the output's buffer. -/
theorem trip_blind (k : Fin k0_t1_loop.trips) (f11 g11 : BufTy.Contents (Elt F) arg11.view.ty) (f12 : BufTy.Contents (Elt F) arg12.view.ty) (f13 : BufTy.Contents (Elt F) arg13.view.ty) :
    tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13 = tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k g11 f12 f13 := by
  unfold tripOf tripL_k0_t1 trip_k0_t1; rfl

/-- A trip stores its block of rows, one head's columns at a time. -/
theorem trip_out (k : Fin k0_t1_loop.trips) (f11 : BufTy.Contents (Elt F) arg11.view.ty) (f12 : BufTy.Contents (Elt F) arg12.view.ty) (f13 : BufTy.Contents (Elt F) arg13.view.ty) :
    ∃ w0 w1 w2 w3 w4 w5 w6 w7 : Vec F S64x128 .bf16, (tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13).1 =
      [⟨Rect.unit (s := S1024x1024) (k0_off10 k) S64x128.size (k0_off10_inb k), w7⟩, ⟨Rect.unit (s := S1024x1024) (k0_off9 k) S64x128.size (k0_off9_inb k), w6⟩, ⟨Rect.unit (s := S1024x1024) (k0_off8 k) S64x128.size (k0_off8_inb k), w5⟩, ⟨Rect.unit (s := S1024x1024) (k0_off7 k) S64x128.size (k0_off7_inb k), w4⟩, ⟨Rect.unit (s := S1024x1024) (k0_off6 k) S64x128.size (k0_off6_inb k), w3⟩, ⟨Rect.unit (s := S1024x1024) (k0_off5 k) S64x128.size (k0_off5_inb k), w2⟩, ⟨Rect.unit (s := S1024x1024) (k0_off4 k) S64x128.size (k0_off4_inb k), w1⟩, ⟨Rect.unit (s := S1024x1024) (k0_off3 k) S64x128.size (k0_off3_inb k), w0⟩] := by
  unfold tripOf tripL_k0_t1 trip_k0_t1
  exact ⟨_, _, _, _, _, _, _, _, rfl⟩

theorem pieces_succ (G11 : BufTy.Contents (Elt F) arg11.view.ty) (G12 : BufTy.Contents (Elt F) arg12.view.ty) (G13 : BufTy.Contents (Elt F) arg13.view.ty) (k : Fin k0_t1_loop.trips) :
    pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 (k.val + 1)
      = ((tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k (arg11.view.writes (Elt F) G11 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).1) (arg12.view.writes (Elt F) G12 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.1) (arg13.view.writes (Elt F) G13 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.2)).1 ++ (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).1,
        (tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k (arg11.view.writes (Elt F) G11 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).1) (arg12.view.writes (Elt F) G12 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.1) (arg13.view.writes (Elt F) G13 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.2)).2.1 ++ (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.1,
        (tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k (arg11.view.writes (Elt F) G11 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).1) (arg12.view.writes (Elt F) G12 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.1) (arg13.view.writes (Elt F) G13 (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.2)).2.2 ++ (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 k.val).2.2) :=
  pb_k0_t1_succ (F := F) Variants.none c none i arg2 harg2 arg3 harg3 arg4 harg4 arg5 harg5 arg6 harg6 arg7 harg7 arg8 harg8 arg9 harg9 arg10 harg10 arg11 harg11 arg12 harg12 arg13 harg13 k0_pay50 k0_pay51 k0_pay52 k0_pay53 (Scalar.select (Scalar.cmpi .eq 32#32 0#32) 1#32 32#32) k0_pay54 k0_pay55 k0_pay56 (harg2.unread x0) (harg3.unread x1) (harg4.unread x2) (harg5.unread x3) (harg6.unread x4) (harg7.unread x5) (harg8.unread x6) (harg9.unread x7) (harg10.unread x8) G11 G12 G13 k

/-- What the trips store does not depend on what the output's buffer held. -/
theorem pieces_blind (G11 G11' : BufTy.Contents (Elt F) arg11.view.ty) (G12 : BufTy.Contents (Elt F) arg12.view.ty) (G13 : BufTy.Contents (Elt F) arg13.view.ty) (n : ℕ) (hn : n ≤ k0_t1_loop.trips) :
    pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 n = pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11' G12 G13 n := by
  induction n with
  | zero => rfl
  | succ n ih =>
    have e := pieces_succ c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 ⟨n, hn⟩
    have e' := pieces_succ c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11' G12 G13 ⟨n, hn⟩
    dsimp only at e e'
    rw [e, e', ih (Nat.le_of_succ_le hn), trip_blind c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨n, hn⟩ (arg11.view.writes (Elt F) G11 _) (arg11.view.writes (Elt F) G11' _)]

/-- A rectangle of 64 rows and 128 columns holds the indices it should. -/
theorem mem_rect (off : Fin 2 → ℕ) (inb) (a h : ℕ) (hoff : off = ![64 * a, 128 * h]) (y : S1024x1024.Idx)
    (h0 : (y 0).val / 64 = a) (h1 : (y 1).val / 128 = h) :
    y ∈ (Rect.unit (s := S1024x1024) off S64x128.size inb).set := by
  subst hoff
  refine (Rect.mem_set_unit (inb := inb)).mpr fun a' => ?_
  match a' with
  | ⟨0, _⟩ => show 64 * a ≤ (y 0).val ∧ (y 0).val < 64 * a + 64; omega
  | ⟨1, _⟩ => show 128 * h ≤ (y 1).val ∧ (y 1).val < 128 * h + 128; omega

/-- A trip's pieces cover its rows. -/
theorem trip_cover (k : Fin k0_t1_loop.trips) (f11 : BufTy.Contents (Elt F) arg11.view.ty) (f12 : BufTy.Contents (Elt F) arg12.view.ty) (f13 : BufTy.Contents (Elt F) arg13.view.ty)
    (y : S1024x1024.Idx) (hy : (y 0).val / 64 = k.val) :
    ∃ p ∈ (tripOf c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13).1, y ∈ p.1.set := by
  obtain ⟨w0, w1, w2, w3, w4, w5, w6, w7, e⟩ := trip_out c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13
  rw [e]
  have h1 : (y 1).val < 1024 := (y 1).isLt
  obtain h | h | h | h | h | h | h | h : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
  · exact ⟨_, .tail _ (.tail _ (.tail _ (.tail _ (.tail _ (.tail _ (.tail _ (.head _))))))), mem_rect _ (k0_off3_inb k) k.val 0 (off3_eq k) y hy h⟩
  · exact ⟨_, .tail _ (.tail _ (.tail _ (.tail _ (.tail _ (.tail _ (.head _)))))), mem_rect _ (k0_off4_inb k) k.val 1 (off4_eq k) y hy h⟩
  · exact ⟨_, .tail _ (.tail _ (.tail _ (.tail _ (.tail _ (.head _))))), mem_rect _ (k0_off5_inb k) k.val 2 (off5_eq k) y hy h⟩
  · exact ⟨_, .tail _ (.tail _ (.tail _ (.tail _ (.head _)))), mem_rect _ (k0_off6_inb k) k.val 3 (off6_eq k) y hy h⟩
  · exact ⟨_, .tail _ (.tail _ (.tail _ (.head _))), mem_rect _ (k0_off7_inb k) k.val 4 (off7_eq k) y hy h⟩
  · exact ⟨_, .tail _ (.tail _ (.head _)), mem_rect _ (k0_off8_inb k) k.val 5 (off8_eq k) y hy h⟩
  · exact ⟨_, .tail _ (.head _), mem_rect _ (k0_off9_inb k) k.val 6 (off9_eq k) y hy h⟩
  · exact ⟨_, .head _, mem_rect _ (k0_off10_inb k) k.val 7 (off10_eq k) y hy h⟩

/-- The first `n` trips' pieces cover the first `64 n` rows. -/
theorem pieces_cover (G11 : BufTy.Contents (Elt F) arg11.view.ty) (G12 : BufTy.Contents (Elt F) arg12.view.ty) (G13 : BufTy.Contents (Elt F) arg13.view.ty) (n : ℕ) (hn : n ≤ k0_t1_loop.trips)
    (y : S1024x1024.Idx) (hy : (y 0).val < 64 * n) :
    ∃ p ∈ (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 n).1, y ∈ p.1.set := by
  induction n with
  | zero => omega
  | succ n ih =>
    have e := congrArg Prod.fst (pieces_succ c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 G11 G12 G13 ⟨n, hn⟩)
    dsimp only at e
    rw [e]
    by_cases h : (y 0).val < 64 * n
    · obtain ⟨p, hp, hy⟩ := ih (Nat.le_of_succ_le hn) h
      exact ⟨p, List.mem_append_right _ hp, hy⟩
    · obtain ⟨p, hp, hy⟩ := trip_cover c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨n, hn⟩ _ _ _ y (by show (y 0).val / 64 = n; omega)
      exact ⟨p, List.mem_append_left _ hp, hy⟩

/-- What a grid point leaves in the output's block, the memory and the running maximum, when it finds `xs0` and `xs1` in
    the latter two.  (What the output's buffer held does not matter; the queries' block stands in for it.) -/
def left (xs0 : Vec F S8x128x256 .f32) (xs1 : Vec F S1x128 .f32) : Vec F S1024x1024 .bf16 × Vec F S8x128x256 .f32 × Vec F S1x128 .f32 :=
  (View.canon (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 (harg11.unread x0) (harg12.unread xs0) (harg13.unread xs1) k0_t1_loop.trips).1,
   arg12.view.read (Elt F) (arg12.view.writes (Elt F) (harg12.unread xs0) (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 (harg11.unread x0) (harg12.unread xs0) (harg13.unread xs1) k0_t1_loop.trips).2.1),
   arg13.view.read (Elt F) (arg13.view.writes (Elt F) (harg13.unread xs1) (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 (harg11.unread x0) (harg12.unread xs0) (harg13.unread xs1) k0_t1_loop.trips).2.2))

theorem read_out (f : BufTy.Contents (Elt F) arg11.view.ty) (xs0 : Vec F S8x128x256 .f32) (xs1 : Vec F S1x128 .f32) :
    arg11.view.read (Elt F) (arg11.view.writes (Elt F) f (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg12.unread xs0) (harg13.unread xs1) k0_t1_loop.trips).1) = (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).1 := by
  rw [pieces_blind c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg11.unread x0) _ _ _ (le_refl _),
    View.read_writes_eq_canon _ _ _ (fun y => pieces_cover c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 _ _ _ _ (le_refl _) y (by rw [trips_eq]; exact (y 0).isLt))]
  rfl

theorem read_memory (f : BufTy.Contents (Elt F) arg11.view.ty) (xs0 : Vec F S8x128x256 .f32) (xs1 : Vec F S1x128 .f32) :
    arg12.view.read (Elt F) (arg12.view.writes (Elt F) (harg12.unread xs0) (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg12.unread xs0) (harg13.unread xs1) k0_t1_loop.trips).2.1) = (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).2.1 := by
  rw [pieces_blind c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg11.unread x0) _ _ _ (le_refl _)]
  rfl

theorem read_max (f : BufTy.Contents (Elt F) arg11.view.ty) (xs0 : Vec F S8x128x256 .f32) (xs1 : Vec F S1x128 .f32) :
    arg13.view.read (Elt F) (arg13.view.writes (Elt F) (harg13.unread xs1) (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg12.unread xs0) (harg13.unread xs1) k0_t1_loop.trips).2.2) = (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).2.2 := by
  rw [pieces_blind c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f (harg11.unread x0) _ _ _ (le_refl _)]
  rfl

/-- A scratch buffer stored whole holds what was stored. -/
theorem store_memory (f : BufTy.Contents (Elt F) arg12.view.ty) (w : Vec F S8x128x256 .f32) :
    arg12.view.writes (Elt F) f [⟨Rect.unit (s := S8x128x256) ![0, 0, 0] S8x128x256.size inb_S8x128x256_S8x128x256_0_0_0, w⟩] = harg12.unread w :=
  harg12.eq_unread (by
    rw [View.read_writes_eq_canon _ _ _ (fun y => ⟨_, List.mem_singleton_self _, View.mem_set_unit_zero (by decide) inb_S8x128x256_S8x128x256_0_0_0 y⟩), View.canon_unit_zero (by decide)])

theorem store_max (f : BufTy.Contents (Elt F) arg13.view.ty) (w : Vec F S1x128 .f32) :
    arg13.view.writes (Elt F) f [⟨Rect.unit (s := S1x128) ![0, 0] S1x128.size inb_S1x128_S1x128_0_0, w⟩] = harg13.unread w :=
  harg13.eq_unread (by
    rw [View.read_writes_eq_canon _ _ _ (fun y => ⟨_, List.mem_singleton_self _, View.mem_set_unit_zero (by decide) inb_S1x128_S1x128_0_0 y⟩), View.canon_unit_zero (by decide)])

set_option maxHeartbeats 4000000 in
/-- The body at a point that is not its sequence's first: it goes on from what the point before left. -/
theorem run_rest (hc : ¬ cond0_0 i) (xs0 : Vec F S8x128x256 .f32) (xs1 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).1 ∗ owns (c : Thread nD τ) arg12 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).2.1 ∗ owns (c : Thread nD τ) arg13 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0 xs1).2.2) -∗ K ⟨⟩))
      ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13) K := by
  simp only [cc0_mlstm_eq_skeleton]; unfold cc0_mlstm_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hs0; obtain rfl := harg13.eq_unread hs1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact read_out c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 xs0 xs1
  isplitl [HS0]
  · iexists _; isplitr
    swap; · iexact HS0
    ipureintro
    exact read_memory c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 xs0 xs1
  iexists _; isplitr
  swap; · iexact HS1
  ipureintro
  exact read_max c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 xs0 xs1

set_option maxHeartbeats 4000000 in
/-- The body at a sequence's first point: it clears the memory and the running maximum first. -/
theorem run_first (hc : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k0_pay48 k0_pay49).1 ∗ owns (c : Thread nD τ) arg12 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k0_pay48 k0_pay49).2.1 ∗ owns (c : Thread nD τ) arg13 fullShare (left c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k0_pay48 k0_pay49).2.2) -∗ K ⟨⟩))
      ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13) K := by
  simp only [cc0_mlstm_eq_skeleton]; unfold cc0_mlstm_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  have e0 := store_memory arg12 harg12 arg12.view.junk (k0_pay48 (F := F))
  have e1 := store_max arg13 harg13 arg13.view.junk (k0_pay49 (F := F))
  isplitl [H9]
  · iexists _; isplitr
    swap; · iexact H9
    ipureintro
    refine Eq.trans ?_ (read_out c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 k0_pay48 k0_pay49)
    rw [← e0, ← e1]; rfl
  isplitl [HS0]
  · iexists _; isplitr
    swap; · iexact HS0
    ipureintro
    refine Eq.trans ?_ (read_memory c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 k0_pay48 k0_pay49)
    rw [← e0, ← e1, ← View.writes_append]; rfl
  iexists _; isplitr
  swap; · iexact HS1
  ipureintro
  refine Eq.trans ?_ (read_max c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f9 k0_pay48 k0_pay49)
  rw [← e0, ← e1, ← View.writes_append]; rfl

end Trip

end Cert.Memory

end
-- ==== Proof.MemoryFrame.lean ====
/-
  The matrix memory's kernel runs to the end from any memory and leaves its arguments alone, over any number format: at each
  point the output's block, the memory and the running maximum are what the body leaves, the memory and the maximum cleared at
  a sequence's first point and carried from the point before at the others.
-/
module

public import proofs.«01_k».proof.Proof.MemoryRun
public import Idealize.ShloMosaic.Lib.Claim

@[expose] public section

set_option maxRecDepth 16384

noncomputable section

namespace Cert.Memory

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer triple holds: the output's block, the memory, the running maximum. -/
abbrev Held (F : FTy → Type) := Vec F S1024x1024 .bf16 × Vec F S8x128x256 .f32 × Vec F S1x128 .f32

/-- What point `t` leaves when it finds `s` in the memory and the running maximum. -/
def leftAt (c : Dev nD) (t : Fin cfg0.N) (s : Vec F S8x128x256 .f32 × Vec F S1x128 .f32) : Held F :=
  left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) s.1 s.2

/-- What point `n` leaves: a sequence's first point starts from a cleared memory, any other from what the point before left. -/
def heldAt (c : Dev nD) : (n : ℕ) → n < cfg0.N → Held F
  | 0, h => leftAt m c ⟨0, h⟩ (k0_pay48, k0_pay49)
  | n + 1, h => leftAt m c ⟨n + 1, h⟩ (if (n + 1) % 16 = 0 then (k0_pay48, k0_pay49) else (heldAt c n (Nat.lt_of_succ_lt h)).2)

theorem heldAt_first (c : Dev nD) (t : Fin cfg0.N) (h0 : t.val % 16 = 0) :
    heldAt m c t.val t.isLt = leftAt m c t (k0_pay48, k0_pay49) := by
  obtain ⟨n, hn⟩ := t
  cases n with
  | zero => rfl
  | succ n =>
    dsimp only at h0
    show leftAt m c _ (if (n + 1) % 16 = 0 then _ else _) = _
    rw [if_pos h0]

theorem heldAt_rest (c : Dev nD) (t : Fin cfg0.N) (h0 : ¬ t.val % 16 = 0) :
    heldAt m c t.val t.isLt = leftAt m c t (heldAt m c (t.val - 1) (Nat.lt_of_le_of_lt (Nat.sub_le _ _) t.isLt)).2 := by
  obtain ⟨n, hn⟩ := t
  cases n with
  | zero => exact absurd (Nat.zero_mod _) h0
  | succ n =>
    dsimp only at h0
    show leftAt m c _ (if (n + 1) % 16 = 0 then _ else _) = _
    rw [if_neg h0]; rfl

/-- Before the first point the two scratch buffers hold anything; before any other, what the point before left. -/
def PhiS (c : Dev nD) : (n : ℕ) → n ≤ cfg0.N → sProp 𝕄
  | 0, _ => Pipeline.ΦA spec0 c
  | n + 1, hn => iprop(iprop(owns (c : Thread nD τ) scM0_0 fullShare (heldAt m c n hn).2.1 ∗ owns (c : Thread nD τ) scM0_1 fullShare (heldAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (heldAt m c n hn).2.1 ∗ owns (c : Thread nD τ) scM0_1 fullShare (heldAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (heldAt m c (n - 1) (by omega)).2.1 ∗ owns (c : Thread nD τ) scM0_1 fullShare (heldAt m c (n - 1) (by omega)).2.2) ∗ (∃ r, prngReg c r)) := by
  cases n with
  | zero => exact absurd rfl hz
  | succ n => rfl

/-- At every point the two scratch buffers are held at something. -/
theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  by_cases hz : n = 0
  · rw [PhiS_zero m c n h hz, PhiA0_eq]
  · rw [PhiS_pos m c n h hz]
    iintro ⟨⟨HS0, HS1⟩, Hg⟩
    isplitl [HS0 HS1]
    · isplitl [HS0]
      · iexists _; iexact HS0
      iexists _; iexact HS1
    iexact Hg

/-- The pipeline's proof data: each input's buffer at its block, the output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (heldAt m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (heldAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ]
  by_cases h0 : t.val % 16 = 0
  · rw [Phi_castSucc m c t, heldAt_first m c t h0]
    refine (sep_mono (PhiS_any m c _ _) .rfl).trans ?_
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun h => h0 (by rw [h])
    rw [Phi_castSucc m c t, PhiS_pos m c _ _ hz, heldAt_rest m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_rest c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (fun h => h0 ((hcond0_0 t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
/-- Every run from any memory with counters at zero ends, with every array of the pipeline at what the proof data says and
    every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Memory

end
-- ==== Proof.MemorySame.lean ====
/-
  The printed matrix memory kernel and its idealization are one text, so the run of the one is the run of the other.
-/
module

public import proofs.«01_k».proof.Proof.Gen.Kernel6
public import proofs.«01_k».proof.Proof.MemoryFrame

@[expose] public section

noncomputable section

namespace Cert.Memory

open Idealize.ShloMosaic Idealize.ShloMosaic.TcCoe Idealize.SL.Sem

variable {F : FTy → Type} [FloatOps F]

/-- The two programs call the same bodies. -/
theorem bodies_eq : Cert.Kernel6.defs₀ (F := F) = Cert.Kernel6Ideal.defs₀ (F := F) := by
  unfold Cert.Kernel6.defs₀ Cert.Kernel6Ideal.defs₀
  refine congrArg Defs.onTc ?_
  funext l x
  match l, x with
  | 0, (t, s) => rfl
  | ⟨_ + 1, h⟩, _ => exact absurd h (Nat.not_lt.2 (Nat.le_add_left _ _))

/-- So their tables are the same. -/
theorem defs_eq : Cert.Kernel6.defs (F := F) = Cert.Kernel6Ideal.defs (F := F) :=
  congrArg (Pipeline.defs Cert.Kernel6Ideal.pcfgs) bodies_eq

set_option maxRecDepth 16384 in
set_option maxHeartbeats 4000000 in
/-- The two programs run the same operations. -/
theorem main_eq : Cert.Kernel6.main (F := F) = Cert.Kernel6Ideal.main (F := F) := rfl

/-- The printed kernel's frame: the arguments end as launched and every counter at zero. -/
theorem frame_printed (m : (ℓ : Loc Cert.Kernel6.nD Cert.Kernel6.τ Cert.Kernel6.sig) → Buf (Elt F) ℓ) (ρ : Dev Cert.Kernel6.nD → PrngReg) :
    θ_run (Cert.Kernel6.defs (F := F)) (onTc (τ := Cert.Kernel6.τ) (Cert.Kernel6.main (F := F))) ⟨m, fun _ => 0, ρ⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0) := by
  rw [defs_eq, main_eq]
  exact frame_run m ρ

end Cert.Memory

end
-- ==== Proof.lean ====
/-
  The proof of the certificate's claim: every program runs to its end and leaves its arguments, the rewritten programs are
  the printed ones, and the results of each kernel with a reference are, over the extended reals, its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.ReferenceIdeal.Run
public import proofs.«01_k».proof.Proof.ExpertsValue
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Reference2Ideal.Run
public import proofs.«01_k».proof.Proof.ProjectionValue
public import proofs.«01_k».proof.Proof.ProjectionSame
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Reference3Ideal.Run
public import proofs.«01_k».proof.Proof.MixValue
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Reference4Ideal.Run
public import proofs.«01_k».proof.Proof.QueriesValue
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Reference5Ideal.Run
public import proofs.«01_k».proof.Proof.GatesValue
public import proofs.«01_k».proof.Proof.Gen.Kernel6
public import proofs.«01_k».proof.Proof.Gen.Kernel6Ideal
public import proofs.«01_k».proof.Proof.MemorySame

@[expose] public section

noncomputable section

namespace Cert.Proof

open Idealize.ShloMosaic Idealize.SL.Sem

/-- The experts kernel's result is its reference's. -/
theorem algebraic1 : algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G7 m c, Cert.KernelIdeal.Value.run m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5⟩ := hagree c
  rw [Cert.ReferenceIdeal.Read.val_main_v40_eq, h0, h1, h2, h3, h4, h5]
  exact (Cert.Experts.value_eq m c).symm

/-- The input projection kernel's two results are its reference's. -/
theorem algebraic2 : algebraic_Kernel2Ideal_Reference2Ideal (hKernel2Ideal := Cert.Kernel2Ideal.Gen.facts) (hReference2Ideal := Cert.Reference2Ideal.Gen.facts) := by
  intro m ρ m' ρ' _ hagree
  refine ⟨fun c => (Cert.Projection.dats m 0 c).arrAt 5 Cert.Kernel2Ideal.cfg0.N, fun c => (Cert.Projection.dats m 0 c).arrAt 6 Cert.Kernel2Ideal.cfg0.N,
    Cert.Projection.run_blocks m ρ, ?_⟩
  refine (θ_run Cert.Reference2Ideal.defs _ _).mono (fun r h c => ⟨(h c).1.trans ?_, (h c).2.1.trans ?_, (h c).2.2⟩)
    (Cert.Reference2Ideal.Value.run (F := Ideal) m' ρ')
  · obtain ⟨h0, h1, h2, h3⟩ := hagree c
    rw [Cert.Reference2Ideal.Read.val_main_v27_eq, h0, h1, h2, h3]
    exact (Cert.Projection.value_eq5 m c).symm
  · obtain ⟨h0, h1, h2, h3⟩ := hagree c
    rw [Cert.Reference2Ideal.Read.val_main_v28_eq, h0, h1, h2, h3]
    exact (Cert.Projection.value_eq6 m c).symm

/-- The mix kernel's two results are its reference's. -/
theorem algebraic3 : algebraic_Kernel3Ideal_Reference3Ideal (hKernel3Ideal := Cert.Kernel3Ideal.Gen.facts) (hReference3Ideal := Cert.Reference3Ideal.Gen.facts) := by
  intro m ρ m' ρ' _ hagree
  refine ⟨fun c => (Cert.Kernel3Ideal.Gen.dats m 0 c).arrAt 14 Cert.Kernel3Ideal.cfg0.N, fun c => (Cert.Kernel3Ideal.Gen.dats m 0 c).arrAt 15 Cert.Kernel3Ideal.cfg0.N,
    Cert.Kernel3Ideal.Value.run_blocks m ρ, ?_⟩
  refine (θ_run Cert.Reference3Ideal.defs _ _).mono (fun r h c => ⟨(h c).1.trans ?_, (h c).2.1.trans ?_, (h c).2.2⟩)
    (Cert.Reference3Ideal.Value.run (F := Ideal) m' ρ')
  · obtain ⟨h0, h1, h2, h3, h4, h5, h6, h7, h8, h9⟩ := hagree c
    rw [Cert.Reference3Ideal.Read.val_main_v87_eq, h0, h1, h2, h3, h4, h5, h6, h7, h8, h9]
    exact (Cert.Mix.value_eq14 m c).symm
  · obtain ⟨h0, h1, h2, h3, h4, h5, h6, h7, h8, h9⟩ := hagree c
    rw [Cert.Reference3Ideal.Read.val_main_v88_eq, h0, h1, h2, h3, h4, h5, h6, h7, h8, h9]
    exact (Cert.Mix.value_eq15 m c).symm

/-- The retrieval queries kernel's result is its reference's. -/
theorem algebraic4 : algebraic_Kernel4Ideal_Reference4Ideal (hKernel4Ideal := Cert.Kernel4Ideal.Gen.facts) (hReference4Ideal := Cert.Reference4Ideal.Gen.facts) := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun r h c => ⟨(h c).1.trans ?_, (h c).2⟩) (Cert.Reference4Ideal.Value.run (F := Ideal) m' ρ')
  obtain ⟨h0, h1⟩ := hagree c
  rw [Cert.Reference4Ideal.Read.val_main_v5_eq, h0, h1]
  exact (Cert.Queries.value_eq m c).symm

/-- The gate scan's three results are its reference's. -/
theorem algebraic5 : algebraic_Kernel5Ideal_Reference5Ideal (hKernel5Ideal := Cert.Kernel5Ideal.Gen.facts) (hReference5Ideal := Cert.Reference5Ideal.Gen.facts) := by
  intro m ρ m' ρ' _ hagree
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N,
    fun c => (Cert.Kernel5Ideal.Gen.dats m 0 c).arrAt 4 Cert.Kernel5Ideal.cfg0.N, Cert.Kernel5Ideal.Value.run_blocks m ρ, ?_⟩
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' ρ')
  · obtain ⟨h0, h1⟩ := hagree c
    rw [Cert.Reference5Ideal.Read.val_main_v16_eq, h0, h1]
    exact (Cert.Gates.value_eq2 m c).symm
  · obtain ⟨h0, h1⟩ := hagree c
    rw [Cert.Reference5Ideal.Read.val_main_v24_eq, h0, h1]
    exact (Cert.Gates.value_eq3 m c).symm
  · obtain ⟨h0, h1⟩ := hagree c
    rw [Cert.Reference5Ideal.Read.val_main_v27_eq, h0, h1]
    exact (Cert.Gates.value_eq4 m c).symm

/-- The claim: the frames of every program, then for each kernel that its rewrite is the printed program and, where it
    has a reference, that its results are the reference's. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.Projection.frame_printed m ρ,
    fun m ρ _ => Cert.Projection.frame_run m ρ,
    fun m ρ _ => (θ_run Cert.Reference2Ideal.defs _ _).mono (fun r h => ⟨fun c => (h c).2.2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2.2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2.2.2, sem_eq_zero_of_no_sems (by decide) r.2⟩)
      (Cert.Reference5Ideal.Value.run (F := Ideal) m ρ),
    fun m ρ _ => Cert.Memory.frame_printed m ρ,
    fun m ρ _ => Cert.Memory.frame_run m ρ,
    trivial,
    algebraic1,
    trivial,
    algebraic2,
    trivial,
    algebraic3,
    trivial,
    algebraic4,
    trivial,
    algebraic5,
    trivial⟩

end Cert.Proof

end
